-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_features_finite [hPre_features_finite : Cert.Pre_features_finite.Facts] (m : (ℓ : Loc Cert.KernelIdeal.nD Cert.KernelIdeal.τ Cert.KernelIdeal.sig) → Buf (Elt Ideal) ℓ) : Prop :=
  ∀ c : Dev Cert.KernelIdeal.nD,
    (Cert.Pre_features_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_features_finite [hPre_features_finite : Cert.Pre_features_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_features_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_features_finite [hKernelIdeal : Cert.KernelIdeal.Facts] [hPre_features_finite : Cert.Pre_features_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_features_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_features_finite [hReferenceIdeal : Cert.ReferenceIdeal.Facts] [hPre_features_finite : Cert.Pre_features_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_features_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_features_finite [hKernelIdeal : Cert.KernelIdeal.Facts] [hReferenceIdeal : Cert.ReferenceIdeal.Facts] [hPre_features_finite : Cert.Pre_features_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_features_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_features_finite : Cert.Pre_features_finite.Facts),
    quiescent_Kernel (hKernel := hKernel)
    ∧ quiescent_KernelIdeal (hKernelIdeal := hKernelIdeal)
    ∧ quiescent_KernelIdeal_pre_features_finite (hKernelIdeal := hKernelIdeal) (hPre_features_finite := hPre_features_finite)
    ∧ quiescent_ReferenceIdeal (hReferenceIdeal := hReferenceIdeal)
    ∧ quiescent_ReferenceIdeal_pre_features_finite (hReferenceIdeal := hReferenceIdeal) (hPre_features_finite := hPre_features_finite)
    ∧ preserves_Kernel_KernelIdeal
    ∧ algebraic_KernelIdeal_ReferenceIdeal_pre_features_finite (hKernelIdeal := hKernelIdeal) (hReferenceIdeal := hReferenceIdeal) (hPre_features_finite := hPre_features_finite)
-- ==== Pre_features_finite.lean ====
abbrev S4x2048x2048 : Shape := ⟨3, ![4, 2048, 2048]⟩
abbrev S16x2048 : Shape := ⟨2, ![16, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)

variable [Facts]

def fn {F : FTy → Type} [FloatOps F] (main_arg0 : FVec F S4x2048x2048 .f32) (main_arg1 : FVec F S16x2048 .f32) (main_arg2 : FVec F S2048 .f32) (main_arg3 : FVec F S2048 .f32) (main_arg4 : FVec F S8192x2048 .f32) (main_arg5 : FVec F S8192 .f32) (main_arg6 : FVec F S2048x8192 .f32) (main_arg7 : FVec F S2048 .f32) : IVec S4x2048x2048 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  main_v2
-- ==== Kernel.lean ====
abbrev S4x2048x2048 : Shape := ⟨3, ![4, 2048, 2048]⟩
abbrev S16x2048 : Shape := ⟨2, ![16, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S1x2048 : Shape := ⟨2, ![1, 2048]⟩
abbrev S_ : Shape := ⟨0, ![]⟩
abbrev S1x8192 : Shape := ⟨2, ![1, 8192]⟩
abbrev S1024x2048 : Shape := ⟨2, ![1024, 2048]⟩
abbrev S2048x2048 : Shape := ⟨2, ![2048, 2048]⟩
abbrev S1024x1 : Shape := ⟨2, ![1024, 1]⟩
abbrev S1024 : Shape := ⟨1, ![1024]⟩
abbrev S1024x1024 : Shape := ⟨2, ![1024, 1024]⟩
abbrev S1x1024 : Shape := ⟨2, ![1, 1024]⟩
abbrev S2048x1024 : Shape := ⟨2, ![2048, 1024]⟩

abbrev nBuf : Space → Nat
  | .hbm => 23
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S8192, .f32⟩
  | .hbm, ⟨6, _⟩ => ⟨S2048x8192, .f32⟩
  | .hbm, ⟨7, _⟩ => ⟨S2048, .f32⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .fp8e4m3⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S1x8192, .f32⟩
  | .hbm, ⟨20, _⟩ => ⟨S2048x8192, .fp8e4m3⟩
  | .hbm, ⟨21, _⟩ => ⟨S1x2048, .f32⟩
  | .hbm, ⟨22, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x2048, .fp8e4m3⟩
  | .local _ .vmem, ⟨6, _⟩ => ⟨S2048x2048, .fp8e4m3⟩
  | .local _ .vmem, ⟨7, _⟩ => ⟨S1x2048, .f32⟩
  | .local _ .vmem, ⟨8, _⟩ => ⟨S1x2048, .f32⟩
  | .local _ .vmem, ⟨9, _⟩ => ⟨S2048x2048, .fp8e4m3⟩
  | .local _ .vmem, ⟨10, _⟩ => ⟨S2048x2048, .fp8e4m3⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .fp8e4m3⟩
  | .local _ .vmem, ⟨15, _⟩ => ⟨S1024x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x2048x2048 : Shape := ⟨3, ![4, 2048, 2048]⟩
abbrev S16x2048 : Shape := ⟨2, ![16, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S2048x16 : Shape := ⟨2, ![2048, 16]⟩
abbrev S8192x16 : Shape := ⟨2, ![8192, 16]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x2048 : Shape := ⟨2, ![1, 2048]⟩
abbrev S8192x8192 : Shape := ⟨2, ![8192, 8192]⟩
abbrev S1x8192 : Shape := ⟨2, ![1, 8192]⟩

abbrev nBuf : Space → Nat
  | .hbm => 155
  | .vmem => 0
  | .smem => 0
  | _ => 0

abbrev hbmTy0_0 (i : Nat) : BufTy := match i % 128 with
  | 0 => ⟨S4x2048x2048, .f32⟩
  | 1 => ⟨S16x2048, .f32⟩
  | 2 => ⟨S2048, .f32⟩
  | 3 => ⟨S2048, .f32⟩
  | 4 => ⟨S8192x2048, .f32⟩
  | 5 => ⟨S8192, .f32⟩
  | 6 => ⟨S2048x8192, .f32⟩
  | 7 => ⟨S2048, .f32⟩
  | 8 => ⟨S8192x2048, .f32⟩
  | 9 => ⟨S2048x16, .f32⟩
  | 10 => ⟨S8192x16, .f32⟩
  | 11 => ⟨S8192x16, .i32⟩
  | 12 => ⟨S_, .f32⟩
  | 13 => ⟨S_, .i32⟩
  | 14 => ⟨S8192, .f32⟩
  | 15 => ⟨S8192, .i32⟩
  | 16 => ⟨S8192, .i32⟩
  | 17 => ⟨S8192, .i32⟩
  | 18 => ⟨S8192, .i32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S1, .i32⟩
  | 28 => ⟨S_, .i32⟩
  | 29 => ⟨S8192x1, .i32⟩
  | 30 => ⟨S8192x1, .i1⟩
  | 31 => ⟨S1x1, .i32⟩
  | 32 => ⟨S8192x1, .i32⟩
  | 33 => ⟨S8192x1, .i1⟩
  | 34 => ⟨S8192x1, .i1⟩
  | 35 => ⟨S_, .i1⟩
  | 36 => ⟨S8192, .i1⟩
  | 37 => ⟨S8192x2048, .f32⟩
  | 38 => ⟨S8192x2048, .i1⟩
  | 39 => ⟨S_, .f32⟩
  | 40 => ⟨S8192x2048, .f32⟩
  | 41 => ⟨S8192x2048, .f32⟩
  | 42 => ⟨S1x2048, .f32⟩
  | 43 => ⟨S2048, .f32⟩
  | 44 => ⟨S8192, .f32⟩
  | 45 => ⟨S8192, .f32⟩
  | 46 => ⟨S8192, .f32⟩
  | 47 => ⟨S_, .f32⟩
  | 48 => ⟨S8192, .f32⟩
  | 49 => ⟨S8192, .f32⟩
  | 50 => ⟨S_, .f32⟩
  | 51 => ⟨S8192, .f32⟩
  | 52 => ⟨S8192, .f32⟩
  | 53 => ⟨S8192x1, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S_, .i32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S8192x2048, .f32⟩
  | 68 => ⟨S8192x2048, .f32⟩
  | 69 => ⟨S8192x2048, .f32⟩
  | 70 => ⟨S_, .f32⟩
  | 71 => ⟨S_, .f32⟩
  | 72 => ⟨S_, .f32⟩
  | 73 => ⟨S_, .f32⟩
  | 74 => ⟨S8192, .f32⟩
  | 75 => ⟨S8192x1, .f32⟩
  | 76 => ⟨S8192x1, .f32⟩
  | 77 => ⟨S8192x1, .f32⟩
  | 78 => ⟨S_, .f32⟩
  | 79 => ⟨S_, .i1⟩
  | 80 => ⟨S_, .f32⟩
  | 81 => ⟨S_, .f32⟩
  | 82 => ⟨S8192x1, .f32⟩
  | 83 => ⟨S8192x1, .f32⟩
  | 84 => ⟨S8192x2048, .f32⟩
  | 85 => ⟨S8192x2048, .f32⟩
  | 86 => ⟨S_, .f32⟩
  | 87 => ⟨S8192x1, .f32⟩
  | 88 => ⟨S8192x1, .f32⟩
  | 89 => ⟨S8192x1, .f32⟩
  | 90 => ⟨S8192x2048, .f32⟩
  | 91 => ⟨S8192x2048, .f32⟩
  | 92 => ⟨S1x2048, .f32⟩
  | 93 => ⟨S8192x2048, .f32⟩
  | 94 => ⟨S8192x2048, .f32⟩
  | 95 => ⟨S1x2048, .f32⟩
  | 96 => ⟨S8192x2048, .f32⟩
  | 97 => ⟨S8192x2048, .f32⟩
  | 98 => ⟨S2048x8192, .f32⟩
  | 99 => ⟨S8192x8192, .f32⟩
  | 100 => ⟨S1x8192, .f32⟩
  | 101 => ⟨S8192x8192, .f32⟩
  | 102 => ⟨S8192x8192, .f32⟩
  | 103 => ⟨S_, .f32⟩
  | 104 => ⟨S8192x8192, .f32⟩
  | 105 => ⟨S8192x8192, .f32⟩
  | 106 => ⟨S8192x2048, .f32⟩
  | 107 => ⟨S8192x2048, .f32⟩
  | 108 => ⟨S1x2048, .f32⟩
  | 109 => ⟨S8192x2048, .f32⟩
  | 110 => ⟨S8192x2048, .f32⟩
  | 111 => ⟨S8192x2048, .f32⟩
  | 112 => ⟨S8192x2048, .f32⟩
  | 113 => ⟨S8192x2048, .f32⟩
  | 114 => ⟨S_, .f32⟩
  | 115 => ⟨S8192x1, .f32⟩
  | 116 => ⟨S8192x1, .f32⟩
  | 117 => ⟨S8192x2048, .f32⟩
  | 118 => ⟨S8192x2048, .f32⟩
  | 119 => ⟨S8192x2048, .f32⟩
  | 120 => ⟨S_, .i32⟩
  | 121 => ⟨S8192, .i32⟩
  | 122 => ⟨S8192, .i32⟩
  | 123 => ⟨S_, .i32⟩
  | 124 => ⟨S8192, .i32⟩
  | 125 => ⟨S8192, .i1⟩
  | 126 => ⟨S_, .i32⟩
  | 127 => ⟨S8192, .i32⟩
  | _ => ⟨S4x2048x2048, .f32⟩

abbrev hbmTy0_1 (i : Nat) : BufTy := match i % 128 with
  | 0 => ⟨S8192, .i32⟩
  | 1 => ⟨S8192, .i32⟩
  | 2 => ⟨S8192x1, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S1, .i32⟩
  | 13 => ⟨S_, .i32⟩
  | 14 => ⟨S8192x1, .i32⟩
  | 15 => ⟨S8192x1, .i1⟩
  | 16 => ⟨S1x1, .i32⟩
  | 17 => ⟨S8192x1, .i32⟩
  | 18 => ⟨S8192x1, .i1⟩
  | 19 => ⟨S8192x1, .i1⟩
  | 20 => ⟨S_, .i1⟩
  | 21 => ⟨S8192, .i1⟩
  | 22 => ⟨S8192x2048, .f32⟩
  | 23 => ⟨S8192x2048, .i1⟩
  | 24 => ⟨S_, .f32⟩
  | 25 => ⟨S8192x2048, .f32⟩
  | 26 => ⟨S8192x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_cst : Ref sig .tc := ⟨.hbm, 12, rfl⟩
abbrev main_call0_c : Ref sig .tc := ⟨.hbm, 13, rfl⟩
abbrev main_call0_v1_0 : Ref sig .tc := ⟨.hbm, 14, rfl⟩
abbrev main_v3 : Ref sig .tc := ⟨.hbm, 15, rfl⟩
abbrev main_call1_v0 : Ref sig .tc := ⟨.hbm, 16, rfl⟩
abbrev main_call1_v1_0 : Ref sig .tc := ⟨.hbm, 17, rfl⟩
abbrev main_v4 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_v14 : Ref sig .tc := ⟨.hbm, 38, rfl⟩
abbrev main_call2_cst : Ref sig .tc := ⟨.hbm, 39, rfl⟩
abbrev main_call2_v15 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_v12 : Ref sig .tc := ⟨.hbm, 49, rfl⟩
abbrev main_cst_0 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_1 : Ref sig .tc := ⟨.hbm, 54, rfl⟩
abbrev main_v16 : Ref sig .tc := ⟨.hbm, 55, rfl⟩
abbrev main_v17 : Ref sig .tc := ⟨.hbm, 56, rfl⟩
abbrev main_cst_2 : Ref sig .tc := ⟨.hbm, 57, rfl⟩
abbrev main_v18 : Ref sig .tc := ⟨.hbm, 58, rfl⟩
abbrev main_v19 : Ref sig .tc := ⟨.hbm, 59, rfl⟩
abbrev main_c : Ref sig .tc := ⟨.hbm, 60, rfl⟩
abbrev main_call3_cst : Ref sig .tc := ⟨.hbm, 61, rfl⟩
abbrev main_call3_v0 : Ref sig .tc := ⟨.hbm, 62, rfl⟩
abbrev main_call3_v1 : Ref sig .tc := ⟨.hbm, 63, rfl⟩
abbrev main_call3_cst_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_cst_1 : Ref sig .tc := ⟨.hbm, 71, rfl⟩
abbrev main_call3_v8 : Ref sig .tc := ⟨.hbm, 72, rfl⟩
abbrev main_call3_cst_2 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_v12 : Ref sig .tc := ⟨.hbm, 77, rfl⟩
abbrev main_call3_cst_3 : Ref sig .tc := ⟨.hbm, 78, rfl⟩
abbrev main_call3_v13 : Ref sig .tc := ⟨.hbm, 79, rfl⟩
abbrev main_call3_cst_4 : Ref sig .tc := ⟨.hbm, 80, rfl⟩
abbrev main_call3_call0_v0 : Ref sig .tc := ⟨.hbm, 81, rfl⟩
abbrev main_call3_call0_v1 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_cst_3 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_call4_cst : Ref sig .tc := ⟨.hbm, 103, rfl⟩
abbrev main_call4_v0 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_cst_4 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_c_5 : Ref sig .tc := ⟨.hbm, 120, rfl⟩
abbrev main_v53 : Ref sig .tc := ⟨.hbm, 121, rfl⟩
abbrev main_v54 : Ref sig .tc := ⟨.hbm, 122, rfl⟩
abbrev main_c_6 : Ref sig .tc := ⟨.hbm, 123, rfl⟩
abbrev main_v55 : Ref sig .tc := ⟨.hbm, 124, rfl⟩
abbrev main_v56 : Ref sig .tc := ⟨.hbm, 125, rfl⟩
abbrev main_c_7 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_call5_c : Ref sig .tc := ⟨.hbm, 132, rfl⟩
abbrev main_call5_v0 : Ref sig .tc := ⟨.hbm, 133, rfl⟩
abbrev main_call5_v1 : Ref sig .tc := ⟨.hbm, 134, rfl⟩
abbrev main_call5_c_0 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_c_1 : Ref sig .tc := ⟨.hbm, 140, rfl⟩
abbrev main_call5_c_2 : Ref sig .tc := ⟨.hbm, 141, rfl⟩
abbrev main_call5_v6 : Ref sig .tc := ⟨.hbm, 142, rfl⟩
abbrev main_call5_v7 : Ref sig .tc := ⟨.hbm, 143, rfl⟩
abbrev main_call5_v8 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_c_3 : Ref sig .tc := ⟨.hbm, 148, rfl⟩
abbrev main_call5_v12 : Ref sig .tc := ⟨.hbm, 149, rfl⟩
abbrev main_call5_v13 : Ref sig .tc := ⟨.hbm, 150, rfl⟩
abbrev main_call5_v14 : Ref sig .tc := ⟨.hbm, 151, rfl⟩
abbrev main_call5_cst : Ref sig .tc := ⟨.hbm, 152, rfl⟩
abbrev main_call5_v15 : Ref sig .tc := ⟨.hbm, 153, rfl⟩
abbrev main_v62 : Ref sig .tc := ⟨.hbm, 154, rfl⟩

abbrev nD : Nat := 1
abbrev τ : Topo := Topo.v7x

variable {F : FTy → Type} [FloatOps F]
-- ==== Proof.RefOps.lean ====
/-
The operations of the reference program, in order, cut into five stretches, and the fact that the
program is these operations one after the other.
-/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of the reference: the tokens as rows, the best expert of each, the order that sorts the tokens by it, and the rows taken in that order. -/
def opsRoute : List (HloOp τ sig (Elt F)) :=
  [ reshape main_arg0 main_v0 (rfl : (.f32 : EltTy) = .f32) shapeCasts_S4x2048x2048_S8192x2048,
    unary main_arg1 main_v1 ((transpose S2048x16 [1, 0] · transposes_S16x2048_S2048x16_1_0) : (⟨S16x2048, .f32⟩ : BufTy).Contents (Elt F) → (⟨S2048x16, .f32⟩ : BufTy).Contents (Elt F)),
    binary main_v0 main_v1 main_v2 ((fun l r => Host.dotGeneral dot_S8192x2048_S2048x16_S8192x16_1_0_0_1_n_n none l r) : (⟨S8192x2048, .f32⟩ : BufTy).Contents (Elt F) → (⟨S2048x16, .f32⟩ : BufTy).Contents (Elt F) → (⟨S8192x16, .f32⟩ : BufTy).Contents (Elt F)),
    TRef.nullary (TRef.of (T := ⟨S8192x16, .i32⟩) main_call0_v0) (iotaInDim S8192x16 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8192x16, .f32⟩) main_v2) (TRef.of (T := ⟨S8192x16, .i32⟩) main_call0_v0) (TRef.of (T := ⟨S_, .f32⟩) main_call0_cst) (TRef.of (T := ⟨S_, .i32⟩) main_call0_c) (TRef.of (T := ⟨S8192, .f32⟩) main_call0_v1_0) (fun x y u v j => (Host.argReduce reducer_argmax_f32_i32 x y u v reducesTo_S8192x16_S8192_d1 h_S_ j).1),
    TRef.quaternary (TRef.of (T := ⟨S8192x16, .f32⟩) main_v2) (TRef.of (T := ⟨S8192x16, .i32⟩) main_call0_v0) (TRef.of (T := ⟨S_, .f32⟩) main_call0_cst) (TRef.of (T := ⟨S_, .i32⟩) main_call0_c) (TRef.of (T := ⟨S8192, .i32⟩) main_v3) (fun x y u v j => (Host.argReduce reducer_argmax_f32_i32 x y u v reducesTo_S8192x16_S8192_d1 h_S_ j).2),
    TRef.nullary (TRef.of (T := ⟨S8192, .i32⟩) main_call1_v0) (iotaInDim S8192 32 0),
    TRef.binary (TRef.of (T := ⟨S8192, .i32⟩) main_v3) (TRef.of (T := ⟨S8192, .i32⟩) main_call1_v0) (TRef.of (T := ⟨S8192, .i32⟩) main_call1_v1_0) (fun x y => (Host.sort2 S8192 0 comparator_i32_i32_d0 x y).1),
    TRef.binary (TRef.of (T := ⟨S8192, .i32⟩) main_v3) (TRef.of (T := ⟨S8192, .i32⟩) main_call1_v0) (TRef.of (T := ⟨S8192, .i32⟩) main_v4) (fun x y => (Host.sort2 S8192 0 comparator_i32_i32_d0 x y).2),
    TRef.nullary (TRef.of (T := ⟨S_, .i32⟩) main_call2_c) (constantI S_ 32 0#32),
    TRef.unary (TRef.of (T := ⟨S_, .i32⟩) main_call2_c) (TRef.of (T := ⟨S8192, .i32⟩) main_call2_v0) (broadcastInDim S8192 ![] bcast_S_S8192),
    TRef.binary (TRef.of (T := ⟨S8192, .i32⟩) main_v4) (TRef.of (T := ⟨S8192, .i32⟩) main_call2_v0) (TRef.of (T := ⟨S8192, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S8192, .i32⟩) main_call2_v2) (broadcastInDim S8192 ![] bcast_S_S8192),
    TRef.binary (TRef.of (T := ⟨S8192, .i32⟩) main_v4) (TRef.of (T := ⟨S8192, .i32⟩) main_call2_v2) (TRef.of (T := ⟨S8192, .i32⟩) main_call2_v3) addi,
    TRef.ternary (TRef.of (T := ⟨S8192, .i1⟩) main_call2_v1) (TRef.of (T := ⟨S8192, .i32⟩) main_call2_v3) (TRef.of (T := ⟨S8192, .i32⟩) main_v4) (TRef.of (T := ⟨S8192, .i32⟩) main_call2_v4) select,
    TRef.unary (TRef.of (T := ⟨S8192, .i32⟩) main_call2_v4) (TRef.of (T := ⟨S8192x1, .i32⟩) main_call2_v5) (broadcastInDim S8192x1 ![0] bcast_S8192_S8192x1_0),
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S8192x1, .i32⟩) main_call2_v6) (broadcastInDim S8192x1 ![] bcast_S_S8192x1),
    TRef.binary (TRef.of (T := ⟨S8192x1, .i32⟩) main_call2_v5) (TRef.of (T := ⟨S8192x1, .i32⟩) main_call2_v6) (TRef.of (T := ⟨S8192x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S8192x1, .i32⟩) main_call2_v9) (broadcastInDim S8192x1 ![0, 1] bcast_S1x1_S8192x1_0_1),
    TRef.binary (TRef.of (T := ⟨S8192x1, .i32⟩) main_call2_v5) (TRef.of (T := ⟨S8192x1, .i32⟩) main_call2_v9) (TRef.of (T := ⟨S8192x1, .i1⟩) main_call2_v10) (cmpi .sle),
    TRef.binary (TRef.of (T := ⟨S8192x1, .i1⟩) main_call2_v7) (TRef.of (T := ⟨S8192x1, .i1⟩) main_call2_v10) (TRef.of (T := ⟨S8192x1, .i1⟩) main_call2_v11) andi,
    TRef.nullary (TRef.of (T := ⟨S_, .i1⟩) main_call2_c_3) (constantI S_ 1 1#1),
    TRef.binary (TRef.of (T := ⟨S8192x1, .i1⟩) main_call2_v11) (TRef.of (T := ⟨S_, .i1⟩) main_call2_c_3) (TRef.of (T := ⟨S8192, .i1⟩) main_call2_v12) (fun x v => Host.reduce IntOp.andi x v reducesTo_S8192x1_S8192_d1 h_S_),
    TRef.binary (TRef.of (T := ⟨S8192x2048, .f32⟩) main_v0) (TRef.of (T := ⟨S8192x1, .i32⟩) main_call2_v5) (TRef.of (T := ⟨S8192x2048, .f32⟩) main_call2_v13) (fun x i => Host.gather gather_S8192x2048_S8192x1_S8192x2048_1_0_n_n_0_1_12048 x i),
    TRef.unary (TRef.of (T := ⟨S8192, .i1⟩) main_call2_v12) (TRef.of (T := ⟨S8192x2048, .i1⟩) main_call2_v14) (broadcastInDim S8192x2048 ![0] bcast_S8192_S8192x2048_0),
    TRef.nullary (TRef.of (T := ⟨S_, .f32⟩) main_call2_cst) (constant S_ .f32 0x7FC00000#32),
    TRef.unary (TRef.of (T := ⟨S_, .f32⟩) main_call2_cst) (TRef.of (T := ⟨S8192x2048, .f32⟩) main_call2_v15) (broadcastInDim S8192x2048 ![] bcast_S_S8192x2048),
    TRef.ternary (TRef.of (T := ⟨S8192x2048, .i1⟩) main_call2_v14) (TRef.of (T := ⟨S8192x2048, .f32⟩) main_call2_v13) (TRef.of (T := ⟨S8192x2048, .f32⟩) main_call2_v15) (TRef.of (T := ⟨S8192x2048, .f32⟩) main_v5) select ]

theorem opsRoute_sub : (opsRoute : List (HloOp τ sig (Elt F))).Forall fun op => op.bufs ⊆ tcRefs τ sig :=
  ⟨reshape_bufs_sub .., unary_bufs_sub .., binary_bufs_sub .., nullary_bufs_sub .., nullary_bufs_sub .., nullary_bufs_sub .., quaternary_bufs_sub .., quaternary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Operations of the reference: the gate of every row: the logistic of its product with the first expert's centroid, written with an exponential. -/
def opsGate : List (HloOp τ sig (Elt F)) :=
  [ unary main_arg1 main_v6 ((extractStridedSlice S1x2048 ![0, 0] · slices_S16x2048_S1x2048_0_0) : (⟨S16x2048, .f32⟩ : BufTy).Contents (Elt F) → (⟨S1x2048, .f32⟩ : BufTy).Contents (Elt F)),
    reshape main_v6 main_v7 (rfl : (.f32 : EltTy) = .f32) shapeCasts_S1x2048_S2048,
    binary main_v5 main_v7 main_v8 ((fun l r => Host.dotGeneral dot_S8192x2048_S2048_S8192_1_0_0_n_n_n none l r) : (⟨S8192x2048, .f32⟩ : BufTy).Contents (Elt F) → (⟨S2048, .f32⟩ : BufTy).Contents (Elt F) → (⟨S8192, .f32⟩ : BufTy).Contents (Elt F)),
    unary main_v8 main_v9 (Host.negf : (⟨S8192, .f32⟩ : BufTy).Contents (Elt F) → (⟨S8192, .f32⟩ : BufTy).Contents (Elt F)),
    unary main_v9 main_v10 (Host.exp : (⟨S8192, .f32⟩ : BufTy).Contents (Elt F) → (⟨S8192, .f32⟩ : BufTy).Contents (Elt F)),
    nullary main_cst (constant S_ .f32 0x3F800000#32),
    unary main_cst main_v11 (broadcastInDim S8192 ![] bcast_S_S8192 : (⟨S_, .f32⟩ : BufTy).Contents (Elt F) → (⟨S8192, .f32⟩ : BufTy).Contents (Elt F)),
    binary main_v11 main_v10 main_v12 (addf : (⟨S8192, .f32⟩ : BufTy).Contents (Elt F) → (⟨S8192, .f32⟩ : BufTy).Contents (Elt F) → (⟨S8192, .f32⟩ : BufTy).Contents (Elt F)),
    nullary main_cst_0 (constant S_ .f32 0x3F800000#32),
    unary main_cst_0 main_v13 (broadcastInDim S8192 ![] bcast_S_S8192 : (⟨S_, .f32⟩ : BufTy).Contents (Elt F) → (⟨S8192, .f32⟩ : BufTy).Contents (Elt F)),
    binary main_v13 main_v12 main_v14 (Host.divf : (⟨S8192, .f32⟩ : BufTy).Contents (Elt F) → (⟨S8192, .f32⟩ : BufTy).Contents (Elt F) → (⟨S8192, .f32⟩ : BufTy).Contents (Elt F)),
    unary main_v14 main_v15 (broadcastInDim S8192x1 ![0] bcast_S8192_S8192x1_0 : (⟨S8192, .f32⟩ : BufTy).Contents (Elt F) → (⟨S8192x1, .f32⟩ : BufTy).Contents (Elt F)) ]

theorem opsGate_sub : (opsGate : List (HloOp τ sig (Elt F))).Forall fun op => op.bufs ⊆ tcRefs τ sig :=
  ⟨unary_bufs_sub .., reshape_bufs_sub .., binary_bufs_sub .., unary_bufs_sub .., unary_bufs_sub .., nullary_bufs_sub .., unary_bufs_sub .., binary_bufs_sub .., nullary_bufs_sub .., unary_bufs_sub .., binary_bufs_sub .., unary_bufs_sub ..⟩

/-- Operations of the reference: the layer normalisation of every row. -/
def opsNorm : List (HloOp τ sig (Elt F)) :=
  [ nullary main_cst_1 (constant S_ .f32 0x00000000#32),
    binary main_v5 main_cst_1 main_v16 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    nullary main_cst_2 (constant S_ .f32 0x45000000#32),
    unary main_cst_2 main_v18 (broadcastInDim S8192x1 ![] bcast_S_S8192x1 : (⟨S_, .f32⟩ : BufTy).Contents (Elt F) → (⟨S8192x1, .f32⟩ : BufTy).Contents (Elt F)),
    binary main_v17 main_v18 main_v19 (Host.divf : (⟨S8192x1, .f32⟩ : BufTy).Contents (Elt F) → (⟨S8192x1, .f32⟩ : BufTy).Contents (Elt F) → (⟨S8192x1, .f32⟩ : BufTy).Contents (Elt F)),
    nullary main_c (constantI S_ 32 0#32),
    TRef.nullary (TRef.of (T := ⟨S_, .f32⟩) main_call3_cst) (constant S_ .f32 0x00000000#32),
    TRef.binary (TRef.of (T := ⟨S8192x2048, .f32⟩) main_v5) (TRef.of (T := ⟨S_, .f32⟩) main_call3_cst) (TRef.of (T := ⟨S8192, .f32⟩) main_call3_v0) (fun x v => Host.reduceAdd x v reducesTo_S8192x2048_S8192_d1 h_S_),
    TRef.unary (TRef.of (T := ⟨S8192, .f32⟩) main_call3_v0) (TRef.of (T := ⟨S8192x1, .f32⟩) main_call3_v1) (broadcastInDim S8192x1 ![0] bcast_S8192_S8192x1_0),
    TRef.nullary (TRef.of (T := ⟨S_, .f32⟩) main_call3_cst_0) (constant S_ .f32 0x45000000#32),
    TRef.unary (TRef.of (T := ⟨S_, .f32⟩) main_call3_cst_0) (TRef.of (T := ⟨S8192x1, .f32⟩) main_call3_v2) (broadcastInDim S8192x1 ![] bcast_S_S8192x1),
    TRef.binary (TRef.of (T := ⟨S8192x1, .f32⟩) main_call3_v1) (TRef.of (T := ⟨S8192x1, .f32⟩) main_call3_v2) (TRef.of (T := ⟨S8192x1, .f32⟩) main_call3_v3) Host.divf,
    TRef.unary (TRef.of (T := ⟨S8192x1, .f32⟩) main_call3_v3) (TRef.of (T := ⟨S8192x2048, .f32⟩) main_call3_v4) (broadcastInDim S8192x2048 ![0, 1] bcast_S8192x1_S8192x2048_0_1),
    TRef.binary (TRef.of (T := ⟨S8192x2048, .f32⟩) main_v5) (TRef.of (T := ⟨S8192x2048, .f32⟩) main_call3_v4) (TRef.of (T := ⟨S8192x2048, .f32⟩) main_call3_v5) subf,
    TRef.binary (TRef.of (T := ⟨S8192x2048, .f32⟩) main_call3_v5) (TRef.of (T := ⟨S8192x2048, .f32⟩) main_call3_v5) (TRef.of (T := ⟨S8192x2048, .f32⟩) main_call3_v6) mulf,
    TRef.unary (TRef.of (T := ⟨S_, .i32⟩) main_c) (TRef.of (T := ⟨S_, .f32⟩) main_call3_v7) (sitofp .f32),
    TRef.nullary (TRef.of (T := ⟨S_, .f32⟩) main_call3_cst_1) (constant S_ .f32 0x45000000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S8192x2048, .f32⟩) main_call3_v6) (TRef.of (T := ⟨S_, .f32⟩) main_call3_cst_2) (TRef.of (T := ⟨S8192, .f32⟩) main_call3_v9) (fun x v => Host.reduceAdd x v reducesTo_S8192x2048_S8192_d1 h_S_),
    TRef.unary (TRef.of (T := ⟨S8192, .f32⟩) main_call3_v9) (TRef.of (T := ⟨S8192x1, .f32⟩) main_call3_v10) (broadcastInDim S8192x1 ![0] bcast_S8192_S8192x1_0),
    TRef.unary (TRef.of (T := ⟨S_, .f32⟩) main_call3_v8) (TRef.of (T := ⟨S8192x1, .f32⟩) main_call3_v11) (broadcastInDim S8192x1 ![] bcast_S_S8192x1),
    TRef.binary (TRef.of (T := ⟨S8192x1, .f32⟩) main_call3_v10) (TRef.of (T := ⟨S8192x1, .f32⟩) main_call3_v11) (TRef.of (T := ⟨S8192x1, .f32⟩) main_call3_v12) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v13) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S8192x1, .f32⟩) main_call3_call0_v1) (broadcastInDim S8192x1 ![] bcast_S_S8192x1),
    TRef.ternary (TRef.of (T := ⟨S_, .i1⟩) main_call3_v13) (TRef.of (T := ⟨S8192x1, .f32⟩) main_call3_v12) (TRef.of (T := ⟨S8192x1, .f32⟩) main_call3_call0_v1) (TRef.of (T := ⟨S8192x1, .f32⟩) main_v20) (fun p a b => select (broadcastInDim S8192x1 ![] bcast_S_S8192x1 p) a b),
    unary main_v19 main_v21 (broadcastInDim S8192x2048 ![0, 1] bcast_S8192x1_S8192x2048_0_1 : (⟨S8192x1, .f32⟩ : BufTy).Contents (Elt F) → (⟨S8192x2048, .f32⟩ : BufTy).Contents (Elt F)),
    binary main_v5 main_v21 main_v22 (subf : (⟨S8192x2048, .f32⟩ : BufTy).Contents (Elt F) → (⟨S8192x2048, .f32⟩ : BufTy).Contents (Elt F) → (⟨S8192x2048, .f32⟩ : BufTy).Contents (Elt F)),
    nullary main_cst_3 (constant S_ .f32 0x3727C5AC#32),
    unary main_cst_3 main_v23 (broadcastInDim S8192x1 ![] bcast_S_S8192x1 : (⟨S_, .f32⟩ : BufTy).Contents (Elt F) → (⟨S8192x1, .f32⟩ : BufTy).Contents (Elt F)),
    binary main_v20 main_v23 main_v24 (addf : (⟨S8192x1, .f32⟩ : BufTy).Contents (Elt F) → (⟨S8192x1, .f32⟩ : BufTy).Contents (Elt F) → (⟨S8192x1, .f32⟩ : BufTy).Contents (Elt F)),
    unary main_v24 main_v25 (Host.sqrt : (⟨S8192x1, .f32⟩ : BufTy).Contents (Elt F) → (⟨S8192x1, .f32⟩ : BufTy).Contents (Elt F)),
    unary main_v25 main_v26 (broadcastInDim S8192x2048 ![0, 1] bcast_S8192x1_S8192x2048_0_1 : (⟨S8192x1, .f32⟩ : BufTy).Contents (Elt F) → (⟨S8192x2048, .f32⟩ : BufTy).Contents (Elt F)),
    binary main_v22 main_v26 main_v27 (Host.divf : (⟨S8192x2048, .f32⟩ : BufTy).Contents (Elt F) → (⟨S8192x2048, .f32⟩ : BufTy).Contents (Elt F) → (⟨S8192x2048, .f32⟩ : BufTy).Contents (Elt F)),
    unary main_arg2 main_v28 (broadcastInDim S1x2048 ![1] bcast_S2048_S1x2048_1 : (⟨S2048, .f32⟩ : BufTy).Contents (Elt F) → (⟨S1x2048, .f32⟩ : BufTy).Contents (Elt F)),
    unary main_v28 main_v29 (broadcastInDim S8192x2048 ![0, 1] bcast_S1x2048_S8192x2048_0_1 : (⟨S1x2048, .f32⟩ : BufTy).Contents (Elt F) → (⟨S8192x2048, .f32⟩ : BufTy).Contents (Elt F)),
    binary main_v27 main_v29 main_v30 (mulf : (⟨S8192x2048, .f32⟩ : BufTy).Contents (Elt F) → (⟨S8192x2048, .f32⟩ : BufTy).Contents (Elt F) → (⟨S8192x2048, .f32⟩ : BufTy).Contents (Elt F)),
    unary main_arg3 main_v31 (broadcastInDim S1x2048 ![1] bcast_S2048_S1x2048_1 : (⟨S2048, .f32⟩ : BufTy).Contents (Elt F) → (⟨S1x2048, .f32⟩ : BufTy).Contents (Elt F)),
    unary main_v31 main_v32 (broadcastInDim S8192x2048 ![0, 1] bcast_S1x2048_S8192x2048_0_1 : (⟨S1x2048, .f32⟩ : BufTy).Contents (Elt F) → (⟨S8192x2048, .f32⟩ : BufTy).Contents (Elt F)),
    binary main_v30 main_v32 main_v33 (addf : (⟨S8192x2048, .f32⟩ : BufTy).Contents (Elt F) → (⟨S8192x2048, .f32⟩ : BufTy).Contents (Elt F) → (⟨S8192x2048, .f32⟩ : BufTy).Contents (Elt F)) ]

theorem opsNorm_sub : (opsNorm : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Operations of the reference: the two dense layers of the expert and the blend of their output with the row by the gate. -/
def opsFfn : List (HloOp τ sig (Elt F)) :=
  [ unary main_arg4 main_v34 ((transpose S2048x8192 [1, 0] · transposes_S8192x2048_S2048x8192_1_0) : (⟨S8192x2048, .f32⟩ : BufTy).Contents (Elt F) → (⟨S2048x8192, .f32⟩ : BufTy).Contents (Elt F)),
    binary main_v33 main_v34 main_v35 ((fun l r => Host.dotGeneral dot_S8192x2048_S2048x8192_S8192x8192_1_0_0_1_n_n none l r) : (⟨S8192x2048, .f32⟩ : BufTy).Contents (Elt F) → (⟨S2048x8192, .f32⟩ : BufTy).Contents (Elt F) → (⟨S8192x8192, .f32⟩ : BufTy).Contents (Elt F)),
    unary main_arg5 main_v36 (broadcastInDim S1x8192 ![1] bcast_S8192_S1x8192_1 : (⟨S8192, .f32⟩ : BufTy).Contents (Elt F) → (⟨S1x8192, .f32⟩ : BufTy).Contents (Elt F)),
    unary main_v36 main_v37 (broadcastInDim S8192x8192 ![0, 1] bcast_S1x8192_S8192x8192_0_1 : (⟨S1x8192, .f32⟩ : BufTy).Contents (Elt F) → (⟨S8192x8192, .f32⟩ : BufTy).Contents (Elt F)),
    binary main_v35 main_v37 main_v38 (addf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x8192, .f32⟩) main_call4_v0) (broadcastInDim S8192x8192 ![] bcast_S_S8192x8192),
    TRef.binary (TRef.of (T := ⟨S8192x8192, .f32⟩) main_v38) (TRef.of (T := ⟨S8192x8192, .f32⟩) main_call4_v0) (TRef.of (T := ⟨S8192x8192, .f32⟩) main_v39) maximumf,
    unary main_arg6 main_v40 ((transpose S8192x2048 [1, 0] · transposes_S2048x8192_S8192x2048_1_0) : (⟨S2048x8192, .f32⟩ : BufTy).Contents (Elt F) → (⟨S8192x2048, .f32⟩ : BufTy).Contents (Elt F)),
    binary main_v39 main_v40 main_v41 ((fun l r => Host.dotGeneral dot_S8192x8192_S8192x2048_S8192x2048_1_0_0_1_n_n none l r) : (⟨S8192x8192, .f32⟩ : BufTy).Contents (Elt F) → (⟨S8192x2048, .f32⟩ : BufTy).Contents (Elt F) → (⟨S8192x2048, .f32⟩ : BufTy).Contents (Elt F)),
    unary main_arg7 main_v42 (broadcastInDim S1x2048 ![1] bcast_S2048_S1x2048_1 : (⟨S2048, .f32⟩ : BufTy).Contents (Elt F) → (⟨S1x2048, .f32⟩ : BufTy).Contents (Elt F)),
    unary main_v42 main_v43 (broadcastInDim S8192x2048 ![0, 1] bcast_S1x2048_S8192x2048_0_1 : (⟨S1x2048, .f32⟩ : BufTy).Contents (Elt F) → (⟨S8192x2048, .f32⟩ : BufTy).Contents (Elt F)),
    binary main_v41 main_v43 main_v44 (addf : (⟨S8192x2048, .f32⟩ : BufTy).Contents (Elt F) → (⟨S8192x2048, .f32⟩ : BufTy).Contents (Elt F) → (⟨S8192x2048, .f32⟩ : BufTy).Contents (Elt F)),
    binary main_v5 main_v44 main_v45 (addf : (⟨S8192x2048, .f32⟩ : BufTy).Contents (Elt F) → (⟨S8192x2048, .f32⟩ : BufTy).Contents (Elt F) → (⟨S8192x2048, .f32⟩ : BufTy).Contents (Elt F)),
    unary main_v15 main_v46 (broadcastInDim S8192x2048 ![0, 1] bcast_S8192x1_S8192x2048_0_1 : (⟨S8192x1, .f32⟩ : BufTy).Contents (Elt F) → (⟨S8192x2048, .f32⟩ : BufTy).Contents (Elt F)),
    binary main_v46 main_v45 main_v47 (mulf : (⟨S8192x2048, .f32⟩ : BufTy).Contents (Elt F) → (⟨S8192x2048, .f32⟩ : BufTy).Contents (Elt F) → (⟨S8192x2048, .f32⟩ : BufTy).Contents (Elt F)),
    nullary main_cst_4 (constant S_ .f32 0x3F800000#32),
    unary main_cst_4 main_v48 (broadcastInDim S8192x1 ![] bcast_S_S8192x1 : (⟨S_, .f32⟩ : BufTy).Contents (Elt F) → (⟨S8192x1, .f32⟩ : BufTy).Contents (Elt F)),
    binary main_v48 main_v15 main_v49 (subf : (⟨S8192x1, .f32⟩ : BufTy).Contents (Elt F) → (⟨S8192x1, .f32⟩ : BufTy).Contents (Elt F) → (⟨S8192x1, .f32⟩ : BufTy).Contents (Elt F)),
    unary main_v49 main_v50 (broadcastInDim S8192x2048 ![0, 1] bcast_S8192x1_S8192x2048_0_1 : (⟨S8192x1, .f32⟩ : BufTy).Contents (Elt F) → (⟨S8192x2048, .f32⟩ : BufTy).Contents (Elt F)),
    binary main_v50 main_v5 main_v51 (mulf : (⟨S8192x2048, .f32⟩ : BufTy).Contents (Elt F) → (⟨S8192x2048, .f32⟩ : BufTy).Contents (Elt F) → (⟨S8192x2048, .f32⟩ : BufTy).Contents (Elt F)),
    binary main_v47 main_v51 main_v52 (addf : (⟨S8192x2048, .f32⟩ : BufTy).Contents (Elt F) → (⟨S8192x2048, .f32⟩ : BufTy).Contents (Elt F) → (⟨S8192x2048, .f32⟩ : BufTy).Contents (Elt F)) ]

theorem opsFfn_sub : (opsFfn : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., binary_bufs_sub ..⟩

/-- Operations of the reference: the inverse of the sorting order, and the rows put back by it. -/
def opsBack : List (HloOp τ sig (Elt F)) :=
  [ nullary main_c_5 (constantI S_ 32 0#32),
    unary main_c_5 main_v53 (broadcastInDim S8192 ![] bcast_S_S8192 : (⟨S_, .i32⟩ : BufTy).Contents (Elt F) → (⟨S8192, .i32⟩ : BufTy).Contents (Elt F)),
    nullary main_v54 (iotaInDim S8192 32 0),
    nullary main_c_6 (constantI S_ 32 0#32),
    unary main_c_6 main_v55 (broadcastInDim S8192 ![] bcast_S_S8192 : (⟨S_, .i32⟩ : BufTy).Contents (Elt F) → (⟨S8192, .i32⟩ : BufTy).Contents (Elt F)),
    binary main_v4 main_v55 main_v56 (cmpi .slt : (⟨S8192, .i32⟩ : BufTy).Contents (Elt F) → (⟨S8192, .i32⟩ : BufTy).Contents (Elt F) → (⟨S8192, .i1⟩ : BufTy).Contents (Elt F)),
    nullary main_c_7 (constantI S_ 32 8192#32),
    unary main_c_7 main_v57 (broadcastInDim S8192 ![] bcast_S_S8192 : (⟨S_, .i32⟩ : BufTy).Contents (Elt F) → (⟨S8192, .i32⟩ : BufTy).Contents (Elt F)),
    binary main_v4 main_v57 main_v58 (addi : (⟨S8192, .i32⟩ : BufTy).Contents (Elt F) → (⟨S8192, .i32⟩ : BufTy).Contents (Elt F) → (⟨S8192, .i32⟩ : BufTy).Contents (Elt F)),
    ternary main_v56 main_v58 main_v4 main_v59 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v59 main_v60 (broadcastInDim S8192x1 ![0] bcast_S8192_S8192x1_0 : (⟨S8192, .i32⟩ : BufTy).Contents (Elt F) → (⟨S8192x1, .i32⟩ : BufTy).Contents (Elt F)),
    ternary main_v53 main_v60 main_v54 main_v61 ((fun x i u => Host.scatter scatter_S8192_S8192x1_S8192_n_0_0_1 (fun _ b => b) x i u) : (⟨S8192, .i32⟩ : BufTy).Contents (Elt F) → (⟨S8192x1, .i32⟩ : BufTy).Contents (Elt F) → (⟨S8192, .i32⟩ : BufTy).Contents (Elt F) → (⟨S8192, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S8192, .i32⟩) main_call5_v0) (broadcastInDim S8192 ![] bcast_S_S8192),
    TRef.binary (TRef.of (T := ⟨S8192, .i32⟩) main_v61) (TRef.of (T := ⟨S8192, .i32⟩) main_call5_v0) (TRef.of (T := ⟨S8192, .i1⟩) main_call5_v1) (cmpi .slt),
    TRef.nullary (TRef.of (T := ⟨S_, .i32⟩) main_call5_c_0) (constantI S_ 32 8192#32),
    TRef.unary (TRef.of (T := ⟨S_, .i32⟩) main_call5_c_0) (TRef.of (T := ⟨S8192, .i32⟩) main_call5_v2) (broadcastInDim S8192 ![] bcast_S_S8192),
    TRef.binary (TRef.of (T := ⟨S8192, .i32⟩) main_v61) (TRef.of (T := ⟨S8192, .i32⟩) main_call5_v2) (TRef.of (T := ⟨S8192, .i32⟩) main_call5_v3) addi,
    TRef.ternary (TRef.of (T := ⟨S8192, .i1⟩) main_call5_v1) (TRef.of (T := ⟨S8192, .i32⟩) main_call5_v3) (TRef.of (T := ⟨S8192, .i32⟩) main_v61) (TRef.of (T := ⟨S8192, .i32⟩) main_call5_v4) select,
    TRef.unary (TRef.of (T := ⟨S8192, .i32⟩) main_call5_v4) (TRef.of (T := ⟨S8192x1, .i32⟩) main_call5_v5) (broadcastInDim S8192x1 ![0] bcast_S8192_S8192x1_0),
    TRef.nullary (TRef.of (T := ⟨S1, .i32⟩) main_call5_c_1) (constantI S1 32 8191#32),
    TRef.nullary (TRef.of (T := ⟨S_, .i32⟩) main_call5_c_2) (constantI S_ 32 0#32),
    TRef.unary (TRef.of (T := ⟨S_, .i32⟩) main_call5_c_2) (TRef.of (T := ⟨S8192x1, .i32⟩) main_call5_v6) (broadcastInDim S8192x1 ![] bcast_S_S8192x1),
    TRef.binary (TRef.of (T := ⟨S8192x1, .i32⟩) main_call5_v5) (TRef.of (T := ⟨S8192x1, .i32⟩) main_call5_v6) (TRef.of (T := ⟨S8192x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S8192x1, .i32⟩) main_call5_v9) (broadcastInDim S8192x1 ![0, 1] bcast_S1x1_S8192x1_0_1),
    TRef.binary (TRef.of (T := ⟨S8192x1, .i32⟩) main_call5_v5) (TRef.of (T := ⟨S8192x1, .i32⟩) main_call5_v9) (TRef.of (T := ⟨S8192x1, .i1⟩) main_call5_v10) (cmpi .sle),
    TRef.binary (TRef.of (T := ⟨S8192x1, .i1⟩) main_call5_v7) (TRef.of (T := ⟨S8192x1, .i1⟩) main_call5_v10) (TRef.of (T := ⟨S8192x1, .i1⟩) main_call5_v11) andi,
    TRef.nullary (TRef.of (T := ⟨S_, .i1⟩) main_call5_c_3) (constantI S_ 1 1#1),
    TRef.binary (TRef.of (T := ⟨S8192x1, .i1⟩) main_call5_v11) (TRef.of (T := ⟨S_, .i1⟩) main_call5_c_3) (TRef.of (T := ⟨S8192, .i1⟩) main_call5_v12) (fun x v => Host.reduce IntOp.andi x v reducesTo_S8192x1_S8192_d1 h_S_),
    TRef.binary (TRef.of (T := ⟨S8192x2048, .f32⟩) main_v52) (TRef.of (T := ⟨S8192x1, .i32⟩) main_call5_v5) (TRef.of (T := ⟨S8192x2048, .f32⟩) main_call5_v13) (fun x i => Host.gather gather_S8192x2048_S8192x1_S8192x2048_1_0_n_n_0_1_12048 x i),
    TRef.unary (TRef.of (T := ⟨S8192, .i1⟩) main_call5_v12) (TRef.of (T := ⟨S8192x2048, .i1⟩) main_call5_v14) (broadcastInDim S8192x2048 ![0] bcast_S8192_S8192x2048_0),
    TRef.nullary (TRef.of (T := ⟨S_, .f32⟩) main_call5_cst) (constant S_ .f32 0x7FC00000#32),
    TRef.unary (TRef.of (T := ⟨S_, .f32⟩) main_call5_cst) (TRef.of (T := ⟨S8192x2048, .f32⟩) main_call5_v15) (broadcastInDim S8192x2048 ![] bcast_S_S8192x2048),
    TRef.ternary (TRef.of (T := ⟨S8192x2048, .i1⟩) main_call5_v14) (TRef.of (T := ⟨S8192x2048, .f32⟩) main_call5_v13) (TRef.of (T := ⟨S8192x2048, .f32⟩) main_call5_v15) (TRef.of (T := ⟨S8192x2048, .f32⟩) main_v62) select ]

theorem opsBack_sub : (opsBack : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- All operations of the reference. -/
def allOps : List (HloOp τ sig (Elt F)) :=
  opsRoute ++ (opsGate ++ (opsNorm ++ (opsFfn ++ opsBack)))

set_option maxRecDepth 8192 in
set_option maxHeartbeats 4000000 in
theorem main_eq (c : Dev nD) : main (F := F) c = seq allOps := rfl

theorem allOps_sub : (allOps : List (HloOp τ sig (Elt F))).Forall fun op => op.bufs ⊆ tcRefs τ sig := by
  unfold allOps
  simp only [List.forall_append]
  exact ⟨opsRoute_sub, opsGate_sub, opsNorm_sub, opsFfn_sub, opsBack_sub⟩

theorem scopedRefs_eq : (Finset.univ.filter fun b : Ref sig .tc => b.isScoped) = ∅ := by decide

theorem scopedSems_eq : (Finset.univ.filter fun sm : SemLoc sig => sm.isScoped .tc) = ∅ := by decide

end Cert.RefRun
-- ==== Proof.RefTerm.lean ====
/-
What the stretches of the reference compute, as named terms of arrays: the sorting order of the
tokens, taking rows by an order, the inverse of an order, and the row-wise expert.
-/
module

public import proofs.«01_k».proof.Proof.Gen.ReferenceIdeal

@[expose] public section

noncomputable section

namespace Cert.RefRun

open Cert.ReferenceIdeal Cert.ReferenceIdeal.Gen Idealize.ShloMosaic

variable {F : FTy → Type} [FloatOps F]

/-- The tokens as rows. -/
def rows (a0 : FVec F S4x2048x2048 .f32) : FVec F S8192x2048 .f32 :=
  shapeCast S8192x2048 a0 shapeCasts_S4x2048x2048_S8192x2048

/-- The best expert of every row: the first position of the largest product with a centroid. -/
def bestExpert (x : FVec F S8192x2048 .f32) (a1 : FVec F S16x2048 .f32) : IVec S8192 32 :=
  fun j => (Host.argReduce reducer_argmax_f32_i32
    (Host.dotGeneral dot_S8192x2048_S2048x16_S8192x16_1_0_0_1_n_n none x (transpose S2048x16 [1, 0] a1 transposes_S16x2048_S2048x16_1_0))
    (iotaInDim S8192x16 32 1) (constant S_ .f32 0xFF800000#32) (constantI S_ 32 0#32)
    reducesTo_S8192x16_S8192_d1 h_S_ j).2

/-- The order that sorts the rows by a key, ties kept in place. -/
def sortOrder (key : IVec S8192 32) : IVec S8192 32 :=
  (Host.sort2 S8192 0 comparator_i32_i32_d0 key (iotaInDim S8192 32 0)).2

/-- Row numbers as a column, a negative one counted from the end. -/
def wrap (p : IVec S8192 32) : IVec S8192x1 32 :=
  broadcastInDim S8192x1 ![0] bcast_S8192_S8192x1_0
    (select (cmpi .slt p (broadcastInDim S8192 ![] bcast_S_S8192 (constantI S_ 32 0#32)))
      (addi p (broadcastInDim S8192 ![] bcast_S_S8192 (constantI S_ 32 8192#32))) p)

/-- Which of the row numbers name a row. -/
def inRange (w : IVec S8192x1 32) : IVec S8192 1 :=
  Host.reduce IntOp.andi
    (andi (cmpi .sge w (broadcastInDim S8192x1 ![] bcast_S_S8192x1 (constantI S_ 32 0#32)))
      (cmpi .sle w (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The rows numbered by `p`, a filler where `p` names no row. -/
def takeRows (p : IVec S8192 32) (x : FVec F S8192x2048 .f32) : FVec F S8192x2048 .f32 :=
  select (broadcastInDim S8192x2048 ![0] bcast_S8192_S8192x2048_0 (inRange (wrap p)))
    (Host.gather gather_S8192x2048_S8192x1_S8192x2048_1_0_n_n_0_1_12048 x (wrap p))
    (broadcastInDim S8192x2048 ![] bcast_S_S8192x2048 (constant S_ .f32 0x7FC00000#32))

/-- The position of every row in an order. -/
def inverseOrder (p : IVec S8192 32) : IVec S8192 32 :=
  Host.scatter scatter_S8192_S8192x1_S8192_n_0_0_1 (fun _ b => b)
    (broadcastInDim S8192 ![] bcast_S_S8192 (constantI S_ 32 0#32)) (wrap p) (iotaInDim S8192 32 0)

/-- The gate of every row. -/
def gate (x : FVec F S8192x2048 .f32) (a1 : FVec F S16x2048 .f32) : FVec F S8192x1 .f32 :=
  broadcastInDim S8192x1 ![0] bcast_S8192_S8192x1_0
    (Host.divf (broadcastInDim S8192 ![] bcast_S_S8192 (constant S_ .f32 0x3F800000#32))
      (addf (broadcastInDim S8192 ![] bcast_S_S8192 (constant S_ .f32 0x3F800000#32))
        (Host.exp (Host.negf (Host.dotGeneral dot_S8192x2048_S2048_S8192_1_0_0_n_n_n none x
          (shapeCast S2048 (extractStridedSlice S1x2048 ![0, 0] a1 slices_S16x2048_S1x2048_0_0) shapeCasts_S1x2048_S2048))))))

/-- The sum of every row, as a column. -/
def rowSum (x : FVec F S8192x2048 .f32) : FVec F S8192x1 .f32 :=
  broadcastInDim S8192x1 ![0] bcast_S8192_S8192x1_0 (Host.reduceAdd x (constant S_ .f32 0x00000000#32) reducesTo_S8192x2048_S8192_d1 h_S_)

/-- The mean of every row. -/
def mean (x : FVec F S8192x2048 .f32) : FVec F S8192x1 .f32 :=
  Host.divf (rowSum x) (broadcastInDim S8192x1 ![] bcast_S_S8192x1 (constant S_ .f32 0x45000000#32))

/-- The rows with their mean taken off. -/
def centred (x : FVec F S8192x2048 .f32) : FVec F S8192x2048 .f32 :=
  subf x (broadcastInDim S8192x2048 ![0, 1] bcast_S8192x1_S8192x2048_0_1 (mean x))

/-- The number of entries a variance is taken over. -/
def count : FVec F S_ .f32 :=
  subf (constant S_ .f32 0x45000000#32) (sitofp .f32 (constantI S_ 32 0#32))

/-- The variance of every row: the mean square of the centred row. -/
def variance (x : FVec F S8192x2048 .f32) : FVec F S8192x1 .f32 :=
  select (broadcastInDim S8192x1 ![] bcast_S_S8192x1 (cmpf .ogt (count (F := F)) (constant S_ .f32 0x00000000#32)))
    (Host.divf (rowSum (mulf (centred x) (centred x))) (broadcastInDim S8192x1 ![] bcast_S_S8192x1 count))
    (broadcastInDim S8192x1 ![] bcast_S_S8192x1 (constant S_ .f32 0x7FC00000#32))

/-- The layer normalisation of every row. -/
def normed (x : FVec F S8192x2048 .f32) (a2 a3 : FVec F S2048 .f32) : FVec F S8192x2048 .f32 :=
  addf
    (mulf
      (Host.divf (centred x)
        (broadcastInDim S8192x2048 ![0, 1] bcast_S8192x1_S8192x2048_0_1
          (Host.sqrt (addf (variance x) (broadcastInDim S8192x1 ![] bcast_S_S8192x1 (constant S_ .f32 0x3727C5AC#32))))))
      (broadcastInDim S8192x2048 ![0, 1] bcast_S1x2048_S8192x2048_0_1 (broadcastInDim S1x2048 ![1] bcast_S2048_S1x2048_1 a2)))
    (broadcastInDim S8192x2048 ![0, 1] bcast_S1x2048_S8192x2048_0_1 (broadcastInDim S1x2048 ![1] bcast_S2048_S1x2048_1 a3))

/-- The hidden layer: a dense layer with bias, cut off below at zero. -/
def hidden (n : FVec F S8192x2048 .f32) (a4 : FVec F S8192x2048 .f32) (a5 : FVec F S8192 .f32) : FVec F S8192x8192 .f32 :=
  maximumf
    (addf (Host.dotGeneral dot_S8192x2048_S2048x8192_S8192x8192_1_0_0_1_n_n none n (transpose S2048x8192 [1, 0] a4 transposes_S8192x2048_S2048x8192_1_0))
      (broadcastInDim S8192x8192 ![0, 1] bcast_S1x8192_S8192x8192_0_1 (broadcastInDim S1x8192 ![1] bcast_S8192_S1x8192_1 a5)))
    (broadcastInDim S8192x8192 ![] bcast_S_S8192x8192 (constant S_ .f32 0x00000000#32))

/-- The row plus the expert's output. -/
def expert (x h : FVec F S8192x2048 .f32) (a4 : FVec F S8192x2048 .f32) (a5 : FVec F S8192 .f32) (a6 : FVec F S2048x8192 .f32)
    (a7 : FVec F S2048 .f32) : FVec F S8192x2048 .f32 :=
  addf x
    (addf (Host.dotGeneral dot_S8192x8192_S8192x2048_S8192x2048_1_0_0_1_n_n none (hidden h a4 a5) (transpose S8192x2048 [1, 0] a6 transposes_S2048x8192_S8192x2048_1_0))
      (broadcastInDim S8192x2048 ![0, 1] bcast_S1x2048_S8192x2048_0_1 (broadcastInDim S1x2048 ![1] bcast_S2048_S1x2048_1 a7)))

/-- The blend of the expert's output with the row, by the gate. -/
def blend (x : FVec F S8192x2048 .f32) (α : FVec F S8192x1 .f32) (h : FVec F S8192x2048 .f32) (a4 : FVec F S8192x2048 .f32) (a5 : FVec F S8192 .f32)
    (a6 : FVec F S2048x8192 .f32) (a7 : FVec F S2048 .f32) : FVec F S8192x2048 .f32 :=
  addf
    (mulf (broadcastInDim S8192x2048 ![0, 1] bcast_S8192x1_S8192x2048_0_1 α) (expert x h a4 a5 a6 a7))
    (mulf
      (broadcastInDim S8192x2048 ![0, 1] bcast_S8192x1_S8192x2048_0_1
        (subf (broadcastInDim S8192x1 ![] bcast_S_S8192x1 (constant S_ .f32 0x3F800000#32)) α))
      x)

/-- What the reference does to every row. -/
def perRow (x : FVec F S8192x2048 .f32) (a1 : FVec F S16x2048 .f32) (a2 a3 : FVec F S2048 .f32) (a4 : FVec F S8192x2048 .f32) (a5 : FVec F S8192 .f32)
    (a6 : FVec F S2048x8192 .f32) (a7 : FVec F S2048 .f32) : FVec F S8192x2048 .f32 :=
  blend x (gate x a1) (normed x a2 a3) a4 a5 a6 a7

/-- The reference's result. -/
def result (a0 : FVec F S4x2048x2048 .f32) (a1 : FVec F S16x2048 .f32) (a2 a3 : FVec F S2048 .f32) (a4 : FVec F S8192x2048 .f32) (a5 : FVec F S8192 .f32)
    (a6 : FVec F S2048x8192 .f32) (a7 : FVec F S2048 .f32) : FVec F S8192x2048 .f32 :=
  takeRows (inverseOrder (sortOrder (bestExpert (rows a0) a1)))
    (perRow (takeRows (sortOrder (bestExpert (rows a0) a1)) (rows a0)) a1 a2 a3 a4 a5 a6 a7)

end Cert.RefRun
-- ==== Proof.RefRun.lean ====
/-
The run of the reference: every stretch of its operations read back as a named term, then the whole
program, its result at one term of the arguments and the arguments unchanged.
-/
module

public import proofs.«01_k».proof.Proof.RefOps
public import proofs.«01_k».proof.Proof.RefTerm

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Contents of all buffers after one list of operations and then another. -/
theorem after_append (l₁ l₂ : List (HloOp τ sig (Elt F))) (V : Valuation τ sig (Elt F)) :
    after (l₁ ++ l₂) V = after l₂ (after l₁ V) := by
  induction l₁ generalizing V with
  | nil => rfl
  | cons o l ih => simp only [List.cons_append, after_cons, ih]

variable (V : Valuation τ sig (Elt F))

set_option maxRecDepth 8192
set_option maxHeartbeats 4000000

theorem route_v0 : after opsRoute V main_v0 = rows (V main_arg0) := by
  simp only [opsRoute, TRef.binary, TRef.nullary, TRef.ternary, TRef.unary, TRef.quaternary, TRef.toBuf, TRef.ofBuf, cast_eq]
  after_results_simp <;> rfl

theorem route_v4 : after opsRoute V main_v4 = sortOrder (bestExpert (rows (V main_arg0)) (V main_arg1)) := by
  simp only [opsRoute, TRef.binary, TRef.nullary, TRef.ternary, TRef.unary, TRef.quaternary, TRef.toBuf, TRef.ofBuf, cast_eq]
  after_results_simp <;> rfl

theorem route_v5 : after opsRoute V main_v5
    = takeRows (sortOrder (bestExpert (rows (V main_arg0)) (V main_arg1))) (rows (V main_arg0)) := by
  simp only [opsRoute, TRef.binary, TRef.nullary, TRef.ternary, TRef.unary, TRef.quaternary, TRef.toBuf, TRef.ofBuf, cast_eq]
  after_results_simp <;> rfl

theorem gate_v15 : after opsGate V main_v15 = gate (V main_v5) (V main_arg1) := by
  simp only [opsGate, TRef.binary, TRef.nullary, TRef.ternary, TRef.unary, TRef.quaternary, TRef.toBuf, TRef.ofBuf, cast_eq]
  after_results_simp <;> rfl

theorem norm_v33 : after opsNorm V main_v33 = normed (V main_v5) (V main_arg2) (V main_arg3) := by
  simp only [opsNorm, TRef.binary, TRef.nullary, TRef.ternary, TRef.unary, TRef.quaternary, TRef.toBuf, TRef.ofBuf, cast_eq]
  after_results_simp <;> rfl

theorem ffn_v52 : after opsFfn V main_v52
    = blend (V main_v5) (V main_v15) (V main_v33) (V main_arg4) (V main_arg5) (V main_arg6) (V main_arg7) := by
  simp only [opsFfn, TRef.binary, TRef.nullary, TRef.ternary, TRef.unary, TRef.quaternary, TRef.toBuf, TRef.ofBuf, cast_eq]
  after_results_simp <;> rfl

theorem back_v62 : after opsBack V main_v62 = takeRows (inverseOrder (V main_v4)) (V main_v52) := by
  simp only [opsBack, TRef.binary, TRef.nullary, TRef.ternary, TRef.unary, TRef.quaternary, TRef.toBuf, TRef.ofBuf, cast_eq]
  after_results_simp <;> rfl

/-- The buffers that `opsRoute` writes. -/
def opsRouteW : List (Ref sig .tc) :=
  [main_v0, main_v1, main_v2, main_call0_v0, main_call0_cst, main_call0_c, main_call0_v1_0, main_v3, main_call1_v0, main_call1_v1_0, main_v4, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v5]

theorem opsRoute_keeps {r : Ref sig .tc} (hr : r ∉ opsRouteW) : after opsRoute V (Proc.devRef .tc r) = V (Proc.devRef .tc r) :=
  after_of_writes_sub _ V (forall_writes_sub_of_map (W := opsRouteW) rfl) hr

/-- The buffers that `opsGate` writes. -/
def opsGateW : List (Ref sig .tc) :=
  [main_v6, main_v7, main_v8, main_v9, main_v10, main_cst, main_v11, main_v12, main_cst_0, main_v13, main_v14, main_v15]

theorem opsGate_keeps {r : Ref sig .tc} (hr : r ∉ opsGateW) : after opsGate V (Proc.devRef .tc r) = V (Proc.devRef .tc r) :=
  after_of_writes_sub _ V (forall_writes_sub_of_map (W := opsGateW) rfl) hr

/-- The buffers that `opsNorm` writes. -/
def opsNormW : List (Ref sig .tc) :=
  [main_cst_1, main_v16, main_v17, main_cst_2, main_v18, main_v19, main_c, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v20, main_v21, main_v22, main_cst_3, main_v23, main_v24, main_v25, main_v26, main_v27, main_v28, main_v29, main_v30, main_v31, main_v32, main_v33]

theorem opsNorm_keeps {r : Ref sig .tc} (hr : r ∉ opsNormW) : after opsNorm V (Proc.devRef .tc r) = V (Proc.devRef .tc r) :=
  after_of_writes_sub _ V (forall_writes_sub_of_map (W := opsNormW) rfl) hr

/-- The buffers that `opsFfn` writes. -/
def opsFfnW : List (Ref sig .tc) :=
  [main_v34, main_v35, main_v36, main_v37, main_v38, main_call4_cst, main_call4_v0, main_v39, main_v40, main_v41, main_v42, main_v43, main_v44, main_v45, main_v46, main_v47, main_cst_4, main_v48, main_v49, main_v50, main_v51, main_v52]

theorem opsFfn_keeps {r : Ref sig .tc} (hr : r ∉ opsFfnW) : after opsFfn V (Proc.devRef .tc r) = V (Proc.devRef .tc r) :=
  after_of_writes_sub _ V (forall_writes_sub_of_map (W := opsFfnW) rfl) hr

/-- The buffers that `opsBack` writes. -/
def opsBackW : List (Ref sig .tc) :=
  [main_c_5, main_v53, main_v54, main_c_6, main_v55, main_v56, main_c_7, main_v57, main_v58, main_v59, main_v60, main_v61, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v62]

theorem opsBack_keeps {r : Ref sig .tc} (hr : r ∉ opsBackW) : after opsBack V (Proc.devRef .tc r) = V (Proc.devRef .tc r) :=
  after_of_writes_sub _ V (forall_writes_sub_of_map (W := opsBackW) rfl) hr

/-- A buffer that no operation writes. -/
theorem all_keeps {r : Ref sig .tc} (h₁ : r ∉ opsRouteW) (h₂ : r ∉ opsGateW) (h₃ : r ∉ opsNormW) (h₄ : r ∉ opsFfnW) (h₅ : r ∉ opsBackW) :
    after allOps V (Proc.devRef .tc r) = V (Proc.devRef .tc r) := by
  unfold allOps
  rw [after_append, after_append, after_append, after_append, opsBack_keeps _ h₅, opsFfn_keeps _ h₄, opsNorm_keeps _ h₃, opsGate_keeps _ h₂, opsRoute_keeps _ h₁]

/-- The result buffer after all operations. -/
theorem all_v62 : after allOps V main_v62
    = result (V main_arg0) (V main_arg1) (V main_arg2) (V main_arg3) (V main_arg4) (V main_arg5) (V main_arg6) (V main_arg7) := by
  unfold allOps
  rw [after_append, after_append, after_append, after_append, back_v62, ffn_v52, norm_v33,
    opsFfn_keeps _ (r := main_v4) (by decide), opsNorm_keeps _ (r := main_v4) (by decide), opsGate_keeps _ (r := main_v4) (by decide), route_v4,
    opsNorm_keeps _ (r := main_v5) (by decide), opsGate_keeps _ (r := main_v5) (by decide), route_v5,
    opsNorm_keeps _ (r := main_v15) (by decide), gate_v15, route_v5, opsRoute_keeps _ (r := main_arg1) (by decide),
    opsGate_keeps _ (r := main_arg2) (by decide), opsRoute_keeps _ (r := main_arg2) (by decide),
    opsGate_keeps _ (r := main_arg3) (by decide), opsRoute_keeps _ (r := main_arg3) (by decide),
    opsNorm_keeps _ (r := main_arg4) (by decide), opsGate_keeps _ (r := main_arg4) (by decide), opsRoute_keeps _ (r := main_arg4) (by decide),
    opsNorm_keeps _ (r := main_arg5) (by decide), opsGate_keeps _ (r := main_arg5) (by decide), opsRoute_keeps _ (r := main_arg5) (by decide),
    opsNorm_keeps _ (r := main_arg6) (by decide), opsGate_keeps _ (r := main_arg6) (by decide), opsRoute_keeps _ (r := main_arg6) (by decide),
    opsNorm_keeps _ (r := main_arg7) (by decide), opsGate_keeps _ (r := main_arg7) (by decide), opsRoute_keeps _ (r := main_arg7) (by decide)]
  rfl

/-- Every run of the reference ends with its result at one term of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v62).trans (all_v62 _),
      (h c main_arg0).trans (all_keeps _ (by decide) (by decide) (by decide) (by decide) (by decide)),
      (h c main_arg1).trans (all_keeps _ (by decide) (by decide) (by decide) (by decide) (by decide)),
      (h c main_arg2).trans (all_keeps _ (by decide) (by decide) (by decide) (by decide) (by decide)),
      (h c main_arg3).trans (all_keeps _ (by decide) (by decide) (by decide) (by decide) (by decide)),
      (h c main_arg4).trans (all_keeps _ (by decide) (by decide) (by decide) (by decide) (by decide)),
      (h c main_arg5).trans (all_keeps _ (by decide) (by decide) (by decide) (by decide) (by decide)),
      (h c main_arg6).trans (all_keeps _ (by decide) (by decide) (by decide) (by decide) (by decide)),
      (h c main_arg7).trans (all_keeps _ (by decide) (by decide) (by decide) (by decide) (by decide))⟩)
    (run_seq scopedRefs_eq scopedSems_eq defs main (fun _ => allOps) main_eq (fun _ => allOps_sub) m ρ fun _ op hop =>
      List.forall_iff_forall_mem.mp (forall_fresh_of_map (ops := allOps) rfl) op hop)

end Cert.RefRun
-- ==== Proof.Cases.lean ====
/-
What one grid point of the kernel leaves, as whole arrays: the first point of a row block (case A)
fills the two scratch buffers and starts the output; every later point (case B) adds to the output.
-/
module

public import proofs.«01_k».proof.Proof.Gen.KernelIdeal.Value
public import Idealize.ShloMosaic.Lib.VecWindow
public import Idealize.ShloMosaic.Lib.Tactic

@[expose] public section

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The rows of the first weights that a half of a point works with. -/
def w1Half (o : ℕ) (x4 : Vec F S2048x2048 .fp8e4m3) (h : S2048x2048.Slices ![o, 0] S1024x2048) : Vec F S1024x2048 .fp8e4m3 :=
  extractStridedSlice S1024x2048 ![o, 0] x4 h

/-- The first biases that a half of a point works with. -/
def b1Half (o : ℕ) (x5 : Vec F S1x2048 .f32) (h : S1x2048.Slices ![0, o] S1x1024) : Vec F S1x1024 .f32 :=
  extractStridedSlice S1x1024 ![0, o] x5 h

/-- The columns of the second weights that a half of a point works with. -/
def w2Half (o : ℕ) (x6 : Vec F S2048x2048 .fp8e4m3) (h : S2048x2048.Slices ![0, o] S2048x1024) : Vec F S2048x1024 .fp8e4m3 :=
  extractStridedSlice S2048x1024 ![0, o] x6 h

theorem rows_0 : S2048x2048.Slices ![0, 0] S1024x2048 := ⟨rfl, inb_S2048x2048_S1024x2048_0_0⟩
theorem rows_1 : S2048x2048.Slices ![1024, 0] S1024x2048 := ⟨rfl, inb_S2048x2048_S1024x2048_1024_0⟩
theorem lanes_0 : S1x2048.Slices ![0, 0] S1x1024 := ⟨rfl, inb_S1x2048_S1x1024_0_0⟩
theorem lanes_1 : S1x2048.Slices ![0, 1024] S1x1024 := ⟨rfl, inb_S1x2048_S1x1024_0_1024⟩
theorem cols_0 : S2048x2048.Slices ![0, 0] S2048x1024 := ⟨rfl, inb_S2048x2048_S2048x1024_0_0⟩
theorem cols_1 : S2048x2048.Slices ![0, 1024] S2048x1024 := ⟨rfl, inb_S2048x2048_S2048x1024_0_1024⟩

/-- The output after a later point, from the output and the scratch before it. -/
def later (x4 : Vec F S2048x2048 .fp8e4m3) (x5 : Vec F S1x2048 .f32) (x6 : Vec F S2048x2048 .fp8e4m3) (o : Vec F S1024x2048 .f32)
    (s0 : Vec F S1024x2048 .fp8e4m3) (s1 : Vec F S1024x1 .f32) : Vec F S1024x2048 .f32 :=
  k0_pay2 (k0_pay13 s0 s1 (w1Half 1024 x4 rows_1) (b1Half 1024 x5 lanes_1))
    (k0_pay12 s0 s1 (w1Half 0 x4 rows_0) (b1Half 0 x5 lanes_0) o (w2Half 0 x6 cols_0))
    (w2Half 1024 x6 cols_1)

/-- The output after the first point of a row block. -/
def first (x0 : Vec F S1024x2048 .f32) (x1 x2 x3 : Vec F S1x2048 .f32) (x4 : Vec F S2048x2048 .fp8e4m3) (x5 : Vec F S1x2048 .f32)
    (x6 : Vec F S2048x2048 .fp8e4m3) (x7 : Vec F S1x2048 .f32) : Vec F S1024x2048 .f32 :=
  k0_pay1 (k0_pay7 x0 x1) (k0_pay11 (k0_pay4 x0 x2 x3) (w1Half 1024 x4 rows_1) (b1Half 1024 x5 lanes_1)) (Scalar.ofBits .f32 0x00000000#32)
    (k0_pay10 (k0_pay4 x0 x2 x3) (k0_pay7 x0 x1) (w1Half 0 x4 rows_0) (b1Half 0 x5 lanes_0) (k0_pay9 (k0_pay3 x0) (k0_pay6 x0 x1) x7) (w2Half 0 x6 cols_0))
    (w2Half 1024 x6 cols_1)

variable (c : Dev nD) (i : grid0.Coords)
  (a2 : Memref sig .tc .vmem S1024x2048 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S1x2048 .f32) (h5 : a5.IsWhole)
  (a6 : Memref sig .tc .vmem S2048x2048 .fp8e4m3) (h6 : a6.IsWhole)
  (a7 : Memref sig .tc .vmem S1x2048 .f32) (h7 : a7.IsWhole)
  (a8 : Memref sig .tc .vmem S2048x2048 .fp8e4m3) (h8 : a8.IsWhole)
  (a9 : Memref sig .tc .vmem S1x2048 .f32) (h9 : a9.IsWhole)
  (a10 : Memref sig .tc .vmem S1024x2048 .f32) (h10 : a10.IsWhole)
  (a11 : Memref sig .tc .vmem S1024x2048 .fp8e4m3) (h11 : a11.IsWhole)
  (a12 : Memref sig .tc .vmem S1024x1 .f32) (h12 : a12.IsWhole)
  (x0 : Vec F S1024x2048 .f32) (x1 x2 x3 : Vec F S1x2048 .f32) (x4 : Vec F S2048x2048 .fp8e4m3) (x5 : Vec F S1x2048 .f32)
  (x6 : Vec F S2048x2048 .fp8e4m3) (x7 : Vec F S1x2048 .f32) (o : Vec F S1024x2048 .f32) (s0 : Vec F S1024x2048 .fp8e4m3) (s1 : Vec F S1024x1 .f32)

/-- Case B: the output is added to. -/
theorem out_B (hc0 : ¬cond0_0 i) (hc1 : cond0_1 i) :
    out0_B_8 c i a2 h2 a3 h3 a4 h4 a5 h5 a6 h6 a7 h7 a8 h8 a9 h9 a10 h10 a11 h11 a12 h12 hc0 hc1 x0 x1 x2 x3 x4 x5 x6 x7 o s0 s1 = later x4 x5 x6 o s0 s1 := by
  unfold out0_B_8
  rw [View.read_writes_eq_canon _ _ _ (cover0_B_8 c i a2 h2 a3 h3 a4 h4 a5 h5 a6 h6 a7 h7 a8 h8 a9 h9 a10 h10 a11 h11 a12 h12 hc0 hc1 x0 x1 x2 x3 x4 x5 x6 x7 o s0 s1)]
  unfold kernelRun0_B
  dsimp only
  sl_unfold_words
  rw [View.canon_cons_unit_zero (S := S1024x2048) hz, View.readCov_unit_zero (S := S1024x2048) _ hz]
  unfold later w1Half b1Half w2Half
  simp only [View.readAt_eq_ld, h2.read_unread, h3.read_unread, h4.read_unread, h5.read_unread, h6.read_unread, h7.read_unread, h8.read_unread, h9.read_unread, h10.read_unread, h11.read_unread, h12.read_unread, View.ld_unit_zero (S := S1024x2048) hz, View.ld_unit_zero (S := S1x2048) hz, View.ld_unit_zero (S := S1024x1) hz]
  simp only [View.ld_unit]

/-- Case A: the output is started. -/
theorem out_A (hc0 : cond0_0 i) (hc1 : ¬cond0_1 i) :
    out0_A_8 c i a2 h2 a3 h3 a4 h4 a5 h5 a6 h6 a7 h7 a8 h8 a9 h9 a10 h10 a11 h11 a12 h12 hc0 hc1 x0 x1 x2 x3 x4 x5 x6 x7 = first x0 x1 x2 x3 x4 x5 x6 x7 := by
  unfold out0_A_8
  rw [View.read_writes_eq_canon _ _ _ (cover0_A_8 c i a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_cons_unit_zero (S := S1024x2048) hz, View.readCov_unit_zero (S := S1024x2048) _ hz,
    View.readCov_full (s := S1024x2048) _ inb_S1024x2048_S1024x2048_0_0 inb_S1024x2048_S1024x2048_0_0]
  unfold first w1Half b1Half w2Half
  simp only [View.readAt_eq_ld, h2.read_unread, h3.read_unread, h4.read_unread, h5.read_unread, h6.read_unread, h7.read_unread, h8.read_unread, h9.read_unread, h10.read_unread, h11.read_unread, h12.read_unread, View.ld_unit_zero (S := S1024x2048) hz, View.ld_unit_zero (S := S1x2048) hz, View.ld_unit_zero (S := S1024x1) hz]
  simp only [View.ld_unit]

/-- Case A: the normalised rows. -/
theorem scratch_A_0 (hc0 : cond0_0 i) (hc1 : ¬cond0_1 i) :
    sout0_A_0 c i a2 h2 a3 h3 a4 h4 a5 h5 a6 h6 a7 h7 a8 h8 a9 h9 a10 h10 a11 h11 a12 h12 hc0 hc1 x0 x1 x2 x3 x4 x5 x6 x7 = k0_pay5 x0 x2 x3 := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6 x7)]
  unfold kernelRun0_A
  dsimp only
  rw [View.canon_unit_zero (S := S1024x2048) hz]
  simp only [View.readAt_eq_ld, h2.read_unread, h3.read_unread, h4.read_unread, h5.read_unread, h6.read_unread, h7.read_unread, h8.read_unread, h9.read_unread, h10.read_unread, h11.read_unread, h12.read_unread, View.ld_unit_zero (S := S1024x2048) hz, View.ld_unit_zero (S := S1x2048) hz, View.ld_unit_zero (S := S1024x1) hz]

/-- Case A: the scaled gates. -/
theorem scratch_A_1 (hc0 : cond0_0 i) (hc1 : ¬cond0_1 i) :
    sout0_A_1 c i a2 h2 a3 h3 a4 h4 a5 h5 a6 h6 a7 h7 a8 h8 a9 h9 a10 h10 a11 h11 a12 h12 hc0 hc1 x0 x1 x2 x3 x4 x5 x6 x7 = k0_pay8 (k0_pay7 x0 x1) := by
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_unit_zero (S := S1024x1) hz]
  simp only [View.readAt_eq_ld, h2.read_unread, h3.read_unread, h4.read_unread, h5.read_unread, h6.read_unread, h7.read_unread, h8.read_unread, h9.read_unread, h10.read_unread, h11.read_unread, h12.read_unread, View.ld_unit_zero (S := S1024x2048) hz, View.ld_unit_zero (S := S1x2048) hz, View.ld_unit_zero (S := S1024x1) hz]

end Cert.KernelIdeal.Cases
-- ==== Proof.Consts.lean ====
/-
The numbers that the programs write as literals.
-/
module

public import Idealize.ShloMosaic.PureOps.Ideal

@[expose] public section

noncomputable section

namespace Cert.Row

open Idealize.ShloMosaic

theorem lit_2048 : Ideal.ofBits .f32 0x45000000#32 = ((2048 : ℝ) : EReal) := by
  simp [Ideal.ofBits, Ideal.ieee, -EReal.coe_mul]; norm_num

theorem lit_16 : Ideal.ofBits .f32 0x41800000#32 = ((16 : ℝ) : EReal) := by
  simp [Ideal.ofBits, Ideal.ieee, -EReal.coe_mul]; norm_num

theorem lit_sixteenth : Ideal.ofBits .f32 0x3D800000#32 = ((1 / 16 : ℝ) : EReal) := by
  simp [Ideal.ofBits, Ideal.ieee, -EReal.coe_mul]; norm_num

/-- The small number added to the variance is a positive real. -/
theorem lit_eps : ∃ e : ℝ, 0 < e ∧ Ideal.ofBits .f32 0x3727C5AC#32 = (e : EReal) := by
  refine ⟨(2 : ℝ) ^ (-40 : ℤ) * 10995116, by positivity, ?_⟩
  simp [Ideal.ofBits, Ideal.ieee, -EReal.coe_mul]; norm_num

/-- The largest exponent with no fraction is infinity. -/
theorem lit_inf : Ideal.ofBits .f32 0x7F800000#32 = (⊤ : EReal) := by
  simp [Ideal.ofBits, Ideal.ieee]

end Cert.Row
-- ==== Proof.RowMath.lean ====
/-
One row of the expert over the extended reals: the tiled, rescaled form computes what the plain form
computes, whenever the row's own entries are real. Nothing is asked of the weights.
-/
module

public import proofs.«01_k».proof.Proof.Consts
public import Idealize.ShloMosaic.Lib.Pointwise.Sums

@[expose] public section

noncomputable section

namespace Cert.Row

open Idealize.ShloMosaic

/-! ## Sums and nonnegative real factors -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_mul_add {a : ℝ} (ha : 0 ≤ a) (y z : EReal) : (a : EReal) * (y + z) = a * y + a * z :=
  EReal.left_distrib_of_nonneg_of_ne_top (EReal.coe_nonneg.mpr ha) (EReal.coe_ne_top a) y z

/-- A nonnegative real factor goes under a sum of extended reals. -/
theorem coe_mul_sum {ι : Type} {a : ℝ} (ha : 0 ≤ a) (s : Finset ι) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, coe_mul_add ha, ih]

/-- A nonnegative real factor goes through the cut at zero. -/
theorem coe_mul_max_zero {a : ℝ} (ha : 0 ≤ a) (y : EReal) : (a : EReal) * max y 0 = max (a * y) 0 := by
  have ha' : (0 : EReal) ≤ a := EReal.coe_nonneg.mpr ha
  rcases le_total y 0 with h | h
  · rw [max_eq_right h, mul_zero, max_eq_right (mul_nonpos_of_nonneg_of_nonpos ha' h)]
  · rw [max_eq_left h, max_eq_left (mul_nonneg ha' h)]

/-! ## The layer normalisation -/

/-- The mean of a row. -/
def mean (x : Fin 2048 → EReal) : EReal := Ideal.div (∑ k, x k) (Ideal.ofBits .f32 0x45000000#32)

/-- The variance as the mean square of the row with its mean taken off. -/
def var (x : Fin 2048 → EReal) : EReal :=
  Ideal.div (∑ k, (x k - mean x) * (x k - mean x)) (Ideal.ofBits .f32 0x45000000#32)

/-- The variance as the mean square less the square of the mean. -/
def var' (x : Fin 2048 → EReal) : EReal :=
  Ideal.div (∑ k, x k * x k) (Ideal.ofBits .f32 0x45000000#32) - mean x * mean x

/-- The normalised row, by a quotient. -/
def norm (x g b : Fin 2048 → EReal) (d : Fin 2048) : EReal :=
  Ideal.div (x d - mean x) (Ideal.sqrt (var x + Ideal.ofBits .f32 0x3727C5AC#32)) * g d + b d

/-- The normalised row, by a reciprocal root. -/
def norm' (x g b : Fin 2048 → EReal) (d : Fin 2048) : EReal :=
  (x d - mean x) * Ideal.rsqrt (var' x + Ideal.ofBits .f32 0x3727C5AC#32) * g d + b d

variable (r : Fin 2048 → ℝ)

theorem mean_coe : mean (fun d => (r d : EReal)) = (((∑ k, r k) * (1 / 2048) : ℝ) : EReal) := by
  unfold mean
  rw [lit_2048, Ideal.div_coe (by norm_num), coe_sum, ← EReal.coe_mul]

theorem var_coe : var (fun d => (r d : EReal))
    = (((∑ k, (r k - (∑ k, r k) * (1 / 2048)) * (r k - (∑ k, r k) * (1 / 2048))) * (1 / 2048) : ℝ) : EReal) := by
  unfold var
  rw [mean_coe, lit_2048, Ideal.div_coe (by norm_num)]
  simp only [← EReal.coe_sub, ← EReal.coe_mul]
  rw [coe_sum, ← EReal.coe_mul]

theorem var'_coe : var' (fun d => (r d : EReal))
    = (((∑ k, r k * r k) * (1 / 2048) - (∑ k, r k) * (1 / 2048) * ((∑ k, r k) * (1 / 2048)) : ℝ) : EReal) := by
  unfold var'
  rw [mean_coe, lit_2048, Ideal.div_coe (by norm_num)]
  simp only [← EReal.coe_mul]
  rw [coe_sum, ← EReal.coe_mul, ← EReal.coe_sub]

/-- The two variances of a real row are one number. -/
theorem var_eq : (∑ k, (r k - (∑ k, r k) * (1 / 2048)) * (r k - (∑ k, r k) * (1 / 2048))) * (1 / 2048)
    = (∑ k, r k * r k) * (1 / 2048) - (∑ k, r k) * (1 / 2048) * ((∑ k, r k) * (1 / 2048)) := by
  generalize hS : ∑ k, r k = S
  have h : ∀ k, (r k - S * (1 / 2048)) * (r k - S * (1 / 2048)) = r k * r k - 2 * (S * (1 / 2048)) * r k + S * (1 / 2048) * (S * (1 / 2048)) := fun k => by ring
  simp only [h, Finset.sum_add_distrib, Finset.sum_sub_distrib, ← Finset.mul_sum, hS, Finset.sum_const, Finset.card_univ, Fintype.card_fin, nsmul_eq_mul]
  push_cast
  ring

/-- The normalised row is the same by a quotient and by a reciprocal root. -/
theorem norm'_eq {x : Fin 2048 → EReal} (hx : ∀ d, ∃ r : ℝ, x d = r) (g b : Fin 2048 → EReal) : norm' x g b = norm x g b := by
  choose r hr using hx
  obtain rfl : x = fun d => (r d : EReal) := funext hr
  obtain ⟨e, he, hE⟩ := lit_eps
  funext d
  unfold norm norm'
  rw [hE, var_coe, var'_coe, ← var_eq, mean_coe, ← EReal.coe_add]
  have hv : 0 ≤ (∑ k, (r k - (∑ k, r k) * (1 / 2048)) * (r k - (∑ k, r k) * (1 / 2048))) * (1 / 2048) :=
    mul_nonneg (Finset.sum_nonneg fun k _ => mul_self_nonneg _) (by norm_num)
  generalize (∑ k, (r k - (∑ k, r k) * (1 / 2048)) * (r k - (∑ k, r k) * (1 / 2048))) * (1 / 2048) = v at hv
  have hp : 0 < v + e := by linarith
  rw [Ideal.sqrt_coe, Ideal.rsqrt_coe, if_neg (not_lt.mpr hp.le), if_neg (not_lt.mpr hp.le), if_neg hp.ne',
    Ideal.div_coe (Real.sqrt_ne_zero'.mpr hp), one_div (√(v + e))]

/-! ## The gate -/

/-- The gate of a row. -/
def gate (x c : Fin 2048 → EReal) : EReal := Ideal.logistic (∑ k, x k * c k)

/-- A gate is a real number between zero and one. -/
theorem gate_real (x c : Fin 2048 → EReal) : ∃ a : ℝ, 0 ≤ a ∧ a ≤ 1 ∧ gate x c = a := by
  unfold gate
  generalize ∑ k, x k * c k = z
  induction z using EReal.rec with
  | bot => exact ⟨0, le_rfl, zero_le_one, by simp⟩
  | top => exact ⟨1, zero_le_one, le_rfl, by simp⟩
  | coe z =>
    have h : 0 < Real.exp (-z) := Real.exp_pos _
    exact ⟨(1 + Real.exp (-z))⁻¹, by positivity, inv_le_one_of_one_le₀ (by linarith), Ideal.logistic_coe z⟩

/-! ## The two dense layers -/

section Layers

variable (n : Fin 2048 → EReal) (W₁ : Fin 8192 → Fin 2048 → EReal) (B₁ : Fin 8192 → EReal) (W₂ : Fin 2048 → Fin 8192 → EReal)

/-- The hidden layer. -/
def hidden (k : Fin 8192) : EReal := max (∑ d, n d * W₁ k d + B₁ k) 0

/-- The hidden layer over weights and biases sixteen times as large, gated by a sixteenth of the gate. -/
def hidden' (α : EReal) (k : Fin 8192) : EReal :=
  max (∑ d, n d * (W₁ k d * Ideal.ofBits .f32 0x41800000#32) + B₁ k * Ideal.ofBits .f32 0x41800000#32) 0
    * (α * Ideal.ofBits .f32 0x3D800000#32)

/-- The sixteen cancels. -/
theorem hidden'_eq (α : EReal) (k : Fin 8192) : hidden' n W₁ B₁ α k = α * hidden n W₁ B₁ k := by
  unfold hidden hidden'
  rw [lit_16, lit_sixteenth]
  have h16 : (0 : ℝ) ≤ 16 := by norm_num
  have e : ∑ d, n d * (W₁ k d * ((16 : ℝ) : EReal)) + B₁ k * ((16 : ℝ) : EReal) = ((16 : ℝ) : EReal) * (∑ d, n d * W₁ k d + B₁ k) := by
    rw [coe_mul_add h16, coe_mul_sum h16]
    refine congrArg₂ (· + ·) (Finset.sum_congr rfl fun d _ => ?_) (mul_comm _ _)
    ac_rfl
  rw [e, ← coe_mul_max_zero h16]
  generalize max (∑ d, n d * W₁ k d + B₁ k) 0 = t
  have hu : ((16 : ℝ) : EReal) * ((1 / 16 : ℝ) : EReal) = 1 := by rw [← EReal.coe_mul]; norm_num
  calc ((16 : ℝ) : EReal) * t * (α * ((1 / 16 : ℝ) : EReal)) = (((16 : ℝ) : EReal) * ((1 / 16 : ℝ) : EReal)) * (α * t) := by ac_rfl
    _ = α * t := by rw [hu, one_mul]

/-- One tile of a thousand and twenty-four hidden entries, gated, through the second layer. -/
def tile (α : EReal) (d : Fin 2048) (s : Fin 8) : EReal :=
  ∑ j : Fin 1024, hidden' n W₁ B₁ α ⟨s.val * 1024 + j.val, by omega⟩ * W₂ d ⟨s.val * 1024 + j.val, by omega⟩

/-- The eight tiles together are the gate times the second layer. -/
theorem sum_tile {a : ℝ} (ha : 0 ≤ a) (d : Fin 2048) :
    ∑ s : Fin 8, tile n W₁ B₁ W₂ (a : EReal) d s = (a : EReal) * ∑ k, hidden n W₁ B₁ k * W₂ d k := by
  have h := Fin.sum_univ_tiles 8 1024 (N := 8192) rfl fun k : Fin 8192 => hidden' n W₁ B₁ (a : EReal) k * W₂ d k
  unfold tile
  rw [← h, coe_mul_sum ha]
  refine Finset.sum_congr rfl fun k _ => ?_
  rw [hidden'_eq, mul_assoc]

end Layers

/-! ## The row -/

section Whole

variable (x c g b : Fin 2048 → EReal) (W₁ : Fin 8192 → Fin 2048 → EReal) (B₁ : Fin 8192 → EReal) (W₂ : Fin 2048 → Fin 8192 → EReal) (b₂ : Fin 2048 → EReal)

/-- The row as the mathematics has it. -/
def out (d : Fin 2048) : EReal :=
  gate x c * (x d + (∑ k, hidden (norm x g b) W₁ B₁ k * W₂ d k + b₂ d)) + (1 - gate x c) * x d

/-- The row before any tile has been added. -/
def start (d : Fin 2048) : EReal := x d + gate x c * b₂ d

/-- The row as the tiles accumulate it. -/
def out' (d : Fin 2048) : EReal := start x c b₂ d + ∑ s : Fin 8, tile (norm' x g b) W₁ B₁ W₂ (gate x c) d s

/-- From a real row the tiles accumulate what the mathematics has. -/
theorem out'_eq (hx : ∀ d, ∃ r : ℝ, x d = r) : out' x c g b W₁ B₁ W₂ b₂ = out x c g b W₁ B₁ W₂ b₂ := by
  funext d
  obtain ⟨a, h0, h1, ha⟩ := gate_real x c
  obtain ⟨r, hr⟩ := hx d
  unfold out out' start
  rw [norm'_eq hx, ha, sum_tile _ _ _ _ h0, coe_mul_add h0, coe_mul_add h0, hr]
  generalize ∑ k, hidden (norm x g b) W₁ B₁ k * W₂ d k = S
  have e1 : (a : EReal) * r + (1 - (a : EReal)) * r = r := by
    rw [← EReal.coe_one, ← EReal.coe_sub, ← EReal.coe_mul, ← EReal.coe_mul, ← EReal.coe_add]
    congr 1
    ring
  calc (r : EReal) + a * b₂ d + a * S = ((a : EReal) * r + (1 - (a : EReal)) * r) + a * b₂ d + a * S := by rw [e1]
    _ = _ := by ac_rfl

end Whole

end Cert.Row
-- ==== Proof.CaseValue.lean ====
/-
What one grid point of the kernel leaves, read at one entry over the extended reals.
-/
module

public import proofs.«01_k».proof.Proof.Cases
public import proofs.«01_k».proof.Proof.RowMath
public import Idealize.ShloMosaic.Lib.Pointwise

@[expose] public section

noncomputable section

namespace Cert.KernelIdeal.Cases

open Cert.KernelIdeal Cert.KernelIdeal.Gen Idealize.ShloMosaic

set_option maxRecDepth 16384

/-- Half `s` of what a point adds to one entry: the hidden units of that half, scaled, against a row of the second weights. -/
def half (n : Fin 2048 → EReal) (α : EReal) (w1 : Fin 2048 → Fin 2048 → EReal) (b1 w2 : Fin 2048 → EReal) (s : Fin 2) : EReal :=
  ∑ j : Fin 1024, max (∑ k, n k * w1 ⟨s.val * 1024 + j.val, by omega⟩ k + b1 ⟨s.val * 1024 + j.val, by omega⟩) 0 * α
    * w2 ⟨s.val * 1024 + j.val, by omega⟩

variable (x0 : FVec Ideal S1024x2048 .f32) (x1 x2 x3 : FVec Ideal S1x2048 .f32) (x4 : FVec Ideal S2048x2048 .fp8e4m3) (x5 : FVec Ideal S1x2048 .f32)
  (x6 : FVec Ideal S2048x2048 .fp8e4m3) (x7 : FVec Ideal S1x2048 .f32) (o : FVec Ideal S1024x2048 .f32) (s0 : FVec Ideal S1024x2048 .fp8e4m3)
  (s1 : FVec Ideal S1024x1 .f32) (r : Fin 1024) (d : Fin 2048)

theorem normed_at : k0_pay4 (F := Ideal) x0 x2 x3 (ix2 r d)
    = Row.norm' (fun k => x0 (ix2 r k)) (fun k => x2 (ix2 0 k)) (fun k => x3 (ix2 0 k)) d := by
  pointwise [k0_pay4, k0_pay3]
  rfl

theorem gate_at : k0_pay6 (F := Ideal) x0 x1 (ix2 r 0) = Row.gate (fun k => x0 (ix2 r k)) (fun k => x1 (ix2 0 k)) := by
  pointwise [k0_pay6, k0_pay3]
  rfl

theorem scaled_gate_at : k0_pay7 (F := Ideal) x0 x1 (ix2 r 0)
    = Row.gate (fun k => x0 (ix2 r k)) (fun k => x1 (ix2 0 k)) * Ideal.ofBits .f32 0x3D800000#32 := by
  pointwise [k0_pay7, gate_at]

theorem later_at : later (F := Ideal) x4 x5 x6 o s0 s1 (ix2 r d)
    = o (ix2 r d)
      + half (fun k => s0 (ix2 r k)) (s1 (ix2 r 0)) (fun f k => x4 (ix2 f k)) (fun f => x5 (ix2 0 f)) (fun f => x6 (ix2 d f)) 0
      + half (fun k => s0 (ix2 r k)) (s1 (ix2 r 0)) (fun f k => x4 (ix2 f k)) (fun f => x5 (ix2 0 f)) (fun f => x6 (ix2 d f)) 1 := by
  unfold half
  pointwise [later, k0_pay2, k0_pay12, k0_pay13, w1Half, b1Half, w2Half]

theorem first_at : first (F := Ideal) x0 x1 x2 x3 x4 x5 x6 x7 (ix2 r d)
    = Row.start (fun k => x0 (ix2 r k)) (fun k => x1 (ix2 0 k)) (fun k => x7 (ix2 0 k)) d
      + half (fun k => k0_pay4 (F := Ideal) x0 x2 x3 (ix2 r k)) (k0_pay7 (F := Ideal) x0 x1 (ix2 r 0)) (fun f k => x4 (ix2 f k)) (fun f => x5 (ix2 0 f)) (fun f => x6 (ix2 d f)) 0
      + half (fun k => k0_pay4 (F := Ideal) x0 x2 x3 (ix2 r k)) (k0_pay7 (F := Ideal) x0 x1 (ix2 r 0)) (fun f k => x4 (ix2 f k)) (fun f => x5 (ix2 0 f)) (fun f => x6 (ix2 d f)) 1 := by
  unfold half
  pointwise [first, k0_pay1, k0_pay10, k0_pay11, k0_pay9, k0_pay3, gate_at, w1Half, b1Half, w2Half]
  rfl

end Cert.KernelIdeal.Cases
-- ==== Proof.Blocks.lean ====
/-
The blocks that the kernel's windows hold at a grid point, read at one entry: entries of the arguments.
-/
module

public import proofs.«01_k».proof.Proof.CaseValue
public import Idealize.ShloMosaic.Lib.Pipeline.ValueKit
public import Idealize.ShloMosaic.Lib.Claim

@[expose] public section

noncomputable section

namespace Cert.KernelIdeal.Blocks

open Cert.KernelIdeal Cert.KernelIdeal.Gen Idealize.ShloMosaic Idealize.ShloMosaic.TcCoe Idealize.SL.Sem

set_option maxRecDepth 16384

variable (m : (ℓ : Loc nD τ sig) → Buf (Elt Ideal) ℓ) (c : Dev nD) (t : Fin cfg0.N)

/-- Where the windows stand at a point: the row block is the point by four, the block of hidden units is what is left. -/
theorem idx : ∀ t : Fin cfg0.N, win0_0.index t = ![t.val / 4, 0] ∧ win0_1.index t = ![0, 0] ∧ win0_2.index t = ![0, 0] ∧ win0_3.index t = ![0, 0]
    ∧ win0_4.index t = ![t.val % 4, 0] ∧ win0_5.index t = ![0, t.val % 4] ∧ win0_6.index t = ![0, t.val % 4] ∧ win0_7.index t = ![0, 0] :=
  (by decide +kernel : ∀ t : Fin grid0.N, _)

/-- The tokens as rows, the kernel's first array. -/
def rows : FVec Ideal S8192x2048 .f32 := shapeCast S8192x2048 (m ((c : Thread nD τ).loc main_arg0)) shapeCasts_S4x2048x2048_S8192x2048

/-- The centroid the kernel reads: row 0 of the centroids. -/
abbrev centroid (k : Fin 2048) : EReal := (m ((c : Thread nD τ).loc main_arg1) : FVec Ideal S16x2048 .f32) (ix2 0 k)

/-- The scale of the normalisation. -/
abbrev scale (k : Fin 2048) : EReal := (m ((c : Thread nD τ).loc main_arg2) : FVec Ideal S2048 .f32) (ix1 k)

/-- The shift of the normalisation. -/
abbrev shift (k : Fin 2048) : EReal := (m ((c : Thread nD τ).loc main_arg3) : FVec Ideal S2048 .f32) (ix1 k)

/-- The first layer's weights. -/
abbrev weights1 (k : Fin 8192) (d : Fin 2048) : EReal := (m ((c : Thread nD τ).loc main_arg4) : FVec Ideal S8192x2048 .f32) (ix2 k d)

/-- The first layer's biases. -/
abbrev biases1 (k : Fin 8192) : EReal := (m ((c : Thread nD τ).loc main_arg5) : FVec Ideal S8192 .f32) (ix1 k)

/-- The second layer's weights. -/
abbrev weights2 (d : Fin 2048) (k : Fin 8192) : EReal := (m ((c : Thread nD τ).loc main_arg6) : FVec Ideal S2048x8192 .f32) (ix2 d k)

/-- The second layer's biases. -/
abbrev biases2 (d : Fin 2048) : EReal := (m ((c : Thread nD τ).loc main_arg7) : FVec Ideal S2048 .f32) (ix1 d)

/-- Window 0 is a block of 1024 tokens. -/
theorem tokens_at (r : Fin 1024) (d : Fin 2048) (R : Fin 8192) (hR : R.val = t.val / 4 * 1024 + r.val) :
    (show FVec Ideal S1024x2048 .f32 from iblk m c 0 t) (ix2 r d) = rows m c (ix2 R d) := by
  have e : (V m c main_v0 : FVec Ideal S8192x2048 .f32) = rows m c := by
    entry_read
    rfl
  rw [← e]
  blk_ext [iblk, idx t]

/-- Window 1 is the centroid. -/
theorem centroid_at (k : Fin 2048) : (show FVec Ideal S1x2048 .f32 from iblk m c 1 t) (ix2 0 k)
    = centroid m c k := by
  have e : (V m c main_v1 : FVec Ideal S1x2048 .f32) (ix2 0 k) = centroid m c k := by
    entry_read
    pointwise
  rw [← e]
  blk_ext [iblk, idx t]

/-- Window 2 is the scale. -/
theorem scale_at (k : Fin 2048) : (show FVec Ideal S1x2048 .f32 from iblk m c 2 t) (ix2 0 k)
    = scale m c k := by
  have e : (V m c main_v2 : FVec Ideal S1x2048 .f32) (ix2 0 k) = scale m c k := by
    entry_read
    pointwise
  rw [← e]
  blk_ext [iblk, idx t]

/-- Window 3 is the shift. -/
theorem shift_at (k : Fin 2048) : (show FVec Ideal S1x2048 .f32 from iblk m c 3 t) (ix2 0 k)
    = shift m c k := by
  have e : (V m c main_v3 : FVec Ideal S1x2048 .f32) (ix2 0 k) = shift m c k := by
    entry_read
    pointwise
  rw [← e]
  blk_ext [iblk, idx t]

/-- Window 4 is a block of 2048 rows of the first layer's weights, scaled by 16. -/
theorem weights1_at (f : Fin 2048) (k : Fin 2048) (K : Fin 8192) (hK : K.val = t.val % 4 * 2048 + f.val) :
    (show FVec Ideal S2048x2048 .fp8e4m3 from iblk m c 4 t) (ix2 f k)
      = weights1 m c K k * Ideal.ofBits .f32 0x41800000#32 := by
  have e : (V m c main_v6 : FVec Ideal S8192x2048 .fp8e4m3) (ix2 K k)
      = weights1 m c K k * Ideal.ofBits .f32 0x41800000#32 := by
    entry_read
    pointwise
  rw [← e]
  blk_ext [iblk, idx t]

/-- Window 5 is a block of 2048 of the first layer's biases, scaled by 16. -/
theorem biases1_at (f : Fin 2048) (K : Fin 8192) (hK : K.val = t.val % 4 * 2048 + f.val) :
    (show FVec Ideal S1x2048 .f32 from iblk m c 5 t) (ix2 0 f)
      = biases1 m c K * Ideal.ofBits .f32 0x41800000#32 := by
  have e : (V m c main_v9 : FVec Ideal S1x8192 .f32) (ix2 0 K)
      = biases1 m c K * Ideal.ofBits .f32 0x41800000#32 := by
    entry_read
    pointwise
  rw [← e]
  blk_ext [iblk, idx t]

/-- Window 6 is a block of 2048 columns of the second layer's weights. -/
theorem weights2_at (d : Fin 2048) (f : Fin 2048) (K : Fin 8192) (hK : K.val = t.val % 4 * 2048 + f.val) :
    (show FVec Ideal S2048x2048 .fp8e4m3 from iblk m c 6 t) (ix2 d f)
      = weights2 m c d K := by
  have e : (V m c main_v10 : FVec Ideal S2048x8192 .fp8e4m3) (ix2 d K)
      = weights2 m c d K := by
    entry_read
    pointwise
  rw [← e]
  blk_ext [iblk, idx t]

/-- Window 7 is the second layer's biases. -/
theorem biases2_at (k : Fin 2048) : (show FVec Ideal S1x2048 .f32 from iblk m c 7 t) (ix2 0 k)
    = biases2 m c k := by
  have e : (V m c main_v11 : FVec Ideal S1x2048 .f32) (ix2 0 k) = biases2 m c k := by
    entry_read
    pointwise
  rw [← e]
  blk_ext [iblk, idx t]

end Cert.KernelIdeal.Blocks
-- ==== Proof.Fold.lean ====
/-
The kernel's output array, read at one entry: what the four points of a row block leave is the row
that eight tiles accumulate.
-/
module

public import proofs.«01_k».proof.Proof.Blocks

@[expose] public section

noncomputable section

namespace Cert.KernelIdeal.Fold

open Cert.KernelIdeal Cert.KernelIdeal.Gen Cert.KernelIdeal.Blocks Cert.KernelIdeal.Cases Idealize.ShloMosaic Idealize.ShloMosaic.TcCoe Idealize.SL.Sem

set_option maxRecDepth 16384

variable (m : (ℓ : Loc nD τ sig) → Buf (Elt Ideal) ℓ) (c : Dev nD) (t : Fin cfg0.N)

/-! ## The blocks, each at its own type -/

def x0 : FVec Ideal S1024x2048 .f32 := iblk m c 0 t
def x1 : FVec Ideal S1x2048 .f32 := iblk m c 1 t
def x2 : FVec Ideal S1x2048 .f32 := iblk m c 2 t
def x3 : FVec Ideal S1x2048 .f32 := iblk m c 3 t
def x4 : FVec Ideal S2048x2048 .fp8e4m3 := iblk m c 4 t
def x5 : FVec Ideal S1x2048 .f32 := iblk m c 5 t
def x6 : FVec Ideal S2048x2048 .fp8e4m3 := iblk m c 6 t
def x7 : FVec Ideal S1x2048 .f32 := iblk m c 7 t

theorem x1_at : (fun k => x1 m c t (ix2 0 k)) = centroid m c := funext fun k => centroid_at m c t k
theorem x2_at : (fun k => x2 m c t (ix2 0 k)) = scale m c := funext fun k => scale_at m c t k
theorem x3_at : (fun k => x3 m c t (ix2 0 k)) = shift m c := funext fun k => shift_at m c t k
theorem x7_at : (fun k => x7 m c t (ix2 0 k)) = biases2 m c := funext fun k => biases2_at m c t k

/-- Row `R` of the tokens. -/
def row (R : Fin 8192) (k : Fin 2048) : EReal := rows m c (ix2 R k)

theorem x0_at (r : Fin 1024) (R : Fin 8192) (hR : R.val = t.val / 4 * 1024 + r.val) : (fun k => x0 m c t (ix2 r k)) = row m c R :=
  funext fun k => tokens_at m c t r k R hR

/-- Row `R` normalised. -/
def normed (R : Fin 8192) : Fin 2048 → EReal := Row.norm' (row m c R) (scale m c) (shift m c)

/-- The gate of row `R`. -/
def gated (R : Fin 8192) : EReal := Row.gate (row m c R) (centroid m c)

/-- Tile `s` of row `R`, zero past the eighth. -/
def tileN (R : Fin 8192) (d : Fin 2048) (s : ℕ) : EReal :=
  if h : s < 8 then Row.tile (normed m c R) (weights1 m c) (biases1 m c) (weights2 m c) (gated m c R) d ⟨s, h⟩ else 0

/-- Row `R` after the first `n` tiles. -/
def partialRow (R : Fin 8192) (d : Fin 2048) (n : ℕ) : EReal :=
  Row.start (row m c R) (centroid m c) (biases2 m c) d + ∑ s ∈ Finset.range n, tileN m c R d s

theorem partialRow_succ (R : Fin 8192) (d : Fin 2048) (n : ℕ) : partialRow m c R d n + tileN m c R d n = partialRow m c R d (n + 1) := by
  unfold partialRow
  rw [Finset.sum_range_succ, add_assoc]

theorem partialRow_zero (R : Fin 8192) (d : Fin 2048) : Row.start (row m c R) (centroid m c) (biases2 m c) d = partialRow m c R d 0 := by
  unfold partialRow
  rw [Finset.sum_range_zero, add_zero]

/-- All eight tiles make the row. -/
theorem partialRow_eight (R : Fin 8192) (d : Fin 2048) : partialRow m c R d 8
    = Row.out' (row m c R) (centroid m c) (scale m c) (shift m c) (weights1 m c) (biases1 m c) (weights2 m c) (biases2 m c) d := by
  unfold partialRow Row.out'
  rw [Finset.sum_range]
  refine congrArg _ (Finset.sum_congr rfl fun s _ => ?_)
  rw [tileN, dif_pos s.isLt]
  rfl

/-- A half of what a point adds is one tile. -/
theorem half_eq (R : Fin 8192) (d : Fin 2048) (s : Fin 2) :
    half (normed m c R) (gated m c R * Ideal.ofBits .f32 0x3D800000#32) (fun f k => x4 m c t (ix2 f k)) (fun f => x5 m c t (ix2 0 f)) (fun f => x6 m c t (ix2 d f)) s
      = tileN m c R d (2 * (t.val % 4) + s.val) := by
  have hs : 2 * (t.val % 4) + s.val < 8 := by omega
  rw [tileN, dif_pos hs]
  unfold half Row.tile
  refine Finset.sum_congr rfl fun j _ => ?_
  have hK : (2 * (t.val % 4) + s.val) * 1024 + j.val = t.val % 4 * 2048 + (s.val * 1024 + j.val) := by ring
  have e4 : ∀ k, x4 m c t (ix2 ⟨s.val * 1024 + j.val, by omega⟩ k) = weights1 m c ⟨(2 * (t.val % 4) + s.val) * 1024 + j.val, by omega⟩ k * Ideal.ofBits .f32 0x41800000#32 :=
    fun k => weights1_at m c t _ k _ hK
  have e5 : x5 m c t (ix2 0 ⟨s.val * 1024 + j.val, by omega⟩) = biases1 m c ⟨(2 * (t.val % 4) + s.val) * 1024 + j.val, by omega⟩ * Ideal.ofBits .f32 0x41800000#32 :=
    biases1_at m c t _ _ hK
  have e6 : x6 m c t (ix2 d ⟨s.val * 1024 + j.val, by omega⟩) = weights2 m c d ⟨(2 * (t.val % 4) + s.val) * 1024 + j.val, by omega⟩ :=
    weights2_at m c t d _ _ hK
  simp only [e4, e5, e6]
  rfl

/-! ## One point -/

section Point

variable (r : Fin 1024) (R : Fin 8192) (hR : R.val = t.val / 4 * 1024 + r.val) (d : Fin 2048)

include hR

/-- The first point of a row block normalises its rows. -/
theorem normed_block : k0_pay4 (F := Ideal) (x0 m c t) (x2 m c t) (x3 m c t) (ix2 r d) = normed m c R d := by
  rw [normed_at, x0_at m c t r R hR, x2_at, x3_at, normed]

/-- The first point of a row block computes its gates. -/
theorem gated_block : k0_pay7 (F := Ideal) (x0 m c t) (x1 m c t) (ix2 r 0) = gated m c R * Ideal.ofBits .f32 0x3D800000#32 := by
  rw [scaled_gate_at, x0_at m c t r R hR, x1_at, gated]

/-- The first point of a row block leaves two tiles. -/
theorem first_block (h : t.val % 4 = 0) :
    first (F := Ideal) (x0 m c t) (x1 m c t) (x2 m c t) (x3 m c t) (x4 m c t) (x5 m c t) (x6 m c t) (x7 m c t) (ix2 r d) = partialRow m c R d (2 * (t.val % 4) + 2) := by
  rw [first_at, gated_block m c t r R hR, show (fun k => k0_pay4 (F := Ideal) (x0 m c t) (x2 m c t) (x3 m c t) (ix2 r k)) = normed m c R from funext fun k => normed_block m c t r R hR k,
    half_eq, half_eq, x0_at m c t r R hR, x1_at, x7_at, partialRow_zero]
  simp only [h]
  exact (congrArg (· + _) (partialRow_succ m c R d 0)).trans (partialRow_succ m c R d 1)

omit hR in
/-- A later point adds two tiles. -/
theorem later_block (o : FVec Ideal S1024x2048 .f32) (s0 : FVec Ideal S1024x2048 .fp8e4m3) (s1 : FVec Ideal S1024x1 .f32)
    (h0 : ∀ k, s0 (ix2 r k) = normed m c R k) (h1 : s1 (ix2 r 0) = gated m c R * Ideal.ofBits .f32 0x3D800000#32)
    (ho : o (ix2 r d) = partialRow m c R d (2 * (t.val % 4))) :
    later (F := Ideal) (x4 m c t) (x5 m c t) (x6 m c t) o s0 s1 (ix2 r d) = partialRow m c R d (2 * (t.val % 4) + 2) := by
  rw [later_at, h1, show (fun k => s0 (ix2 r k)) = normed m c R from funext h0, half_eq, half_eq, ho]
  exact (congrArg (· + _) (partialRow_succ m c R d _)).trans (partialRow_succ m c R d _)

end Point

/-! ## All points -/

/-- What stands after a point: the normalised rows and the gates of its row block, and the rows so far. -/
def Inv (n : ℕ) (o : FVec Ideal S1024x2048 .f32) (s0 : FVec Ideal S1024x2048 .fp8e4m3) (s1 : FVec Ideal S1024x1 .f32) : Prop :=
  ∀ (r : Fin 1024) (R : Fin 8192), R.val = n / 4 * 1024 + r.val →
    (∀ k, s0 (ix2 r k) = normed m c R k) ∧ s1 (ix2 r 0) = gated m c R * Ideal.ofBits .f32 0x3D800000#32
      ∧ ∀ d, o (ix2 r d) = partialRow m c R d (2 * (n % 4) + 2)

theorem inv_first (h : t.val % 4 = 0) :
    Inv m c t.val (first (F := Ideal) (x0 m c t) (x1 m c t) (x2 m c t) (x3 m c t) (x4 m c t) (x5 m c t) (x6 m c t) (x7 m c t))
      (k0_pay5 (F := Ideal) (x0 m c t) (x2 m c t) (x3 m c t)) (k0_pay8 (F := Ideal) (k0_pay7 (F := Ideal) (x0 m c t) (x1 m c t))) := by
  intro r R hR
  refine ⟨fun k => ?_, ?_, fun d => first_block m c t r R hR d h⟩
  · rw [← normed_block m c t r R hR k]
    pointwise [k0_pay5]
  · rw [← gated_block m c t r R hR]
    pointwise [k0_pay8]

theorem inv_later (h : 1 ≤ t.val % 4) (o : FVec Ideal S1024x2048 .f32) (s0 : FVec Ideal S1024x2048 .fp8e4m3) (s1 : FVec Ideal S1024x1 .f32)
    (hi : Inv m c (t.val - 1) o s0 s1) : Inv m c t.val (later (F := Ideal) (x4 m c t) (x5 m c t) (x6 m c t) o s0 s1) s0 s1 := by
  intro r R hR
  obtain ⟨a, b, e⟩ := hi r R (by rw [hR]; omega)
  refine ⟨a, b, fun d => later_block m c t r R d o s0 s1 a b ((e d).trans ?_)⟩
  congr 1
  omega

theorem inv (n : ℕ) (hn : n < cfg0.N) : Inv m c n (outsAt0 m c n hn).1 (outsAt0 m c n hn).2.1 (outsAt0 m c n hn).2.2 := by
  induction n with
  | zero =>
    rw [outsAt0_A m c ⟨0, hn⟩ (Nat.zero_mod 4) (by dsimp only; omega)]
    dsimp only
    rw [out_A, scratch_A_0, scratch_A_1]
    exact inv_first m c ⟨0, hn⟩ (Nat.zero_mod 4)
  | succ n ih =>
    by_cases h : (n + 1) % 4 = 0
    · rw [outsAt0_A m c ⟨n + 1, hn⟩ h (by dsimp only; omega)]
      dsimp only
      rw [out_A, scratch_A_0, scratch_A_1]
      exact inv_first m c ⟨n + 1, hn⟩ h
    · have h' : 1 ≤ (n + 1) % 4 := by omega
      rw [outsAt0_B m c ⟨n + 1, hn⟩ h h']
      dsimp only
      rw [out_B]
      exact inv_later m c ⟨n + 1, hn⟩ h' _ _ _ (ih (Nat.lt_of_succ_lt hn))

/-- The kernel's output at row `R` and feature `d`. -/
theorem G8_at (R : Fin 8192) (d : Fin 2048) : (Value.G8 m c : FVec Ideal S8192x2048 .f32) (ix2 R d)
    = Row.out' (row m c R) (centroid m c) (scale m c) (shift m c) (weights1 m c) (biases1 m c) (weights2 m c) (biases2 m c) d := by
  have hp : Value.pt8Of (ix2 R d) = 4 * (R.val / 1024) + 3 := by
    show 4 * (1 * (R.val / 1024 - 0) + 1 * (d.val / 2048 - 0)) + 3 = _
    omega
  have hN : cfg0.N = 32 := N_0
  have hlt : Value.pt8Of (ix2 R d) < cfg0.N := by rw [hp, hN]; omega
  have hl : Value.loc8Of (ix2 R d) = ix2 ⟨R.val % 1024, Nat.mod_lt _ (by decide)⟩ d := by
    funext a
    match a with
    | ⟨0, _⟩ => rfl
    | ⟨1, _⟩ => exact Fin.ext (Nat.mod_eq_of_lt d.isLt)
  unfold Value.G8
  rw [dif_pos hlt, ← Value.outsAt0_sweep m c _ hlt, hl]
  refine ((inv m c _ hlt ⟨R.val % 1024, Nat.mod_lt _ (by decide)⟩ R ?_).2.2 d).trans ?_
  · rw [hp]
    show R.val = (4 * (R.val / 1024) + 3) / 4 * 1024 + R.val % 1024
    omega
  · rw [hp, show 2 * ((4 * (R.val / 1024) + 3) % 4) + 2 = 8 by omega, partialRow_eight]

end Cert.KernelIdeal.Fold
-- ==== Proof.RefValue.lean ====
/-
What the reference does to every row, read at one entry: the row of `RowMath`.
-/
module

public import proofs.«01_k».proof.Proof.RefTerm
public import proofs.«01_k».proof.Proof.RowMath
public import Idealize.ShloMosaic.Lib.Pointwise

@[expose] public section

noncomputable section

namespace Cert.RefRun

open Cert.ReferenceIdeal Cert.ReferenceIdeal.Gen Idealize.ShloMosaic

set_option maxRecDepth 16384

variable (x h : FVec Ideal S8192x2048 .f32) (a1 : FVec Ideal S16x2048 .f32) (a2 a3 : FVec Ideal S2048 .f32) (a4 : FVec Ideal S8192x2048 .f32)
  (a5 : FVec Ideal S8192 .f32) (a6 : FVec Ideal S2048x8192 .f32) (a7 : FVec Ideal S2048 .f32) (α : FVec Ideal S8192x1 .f32)
  (r : Fin 8192) (d : Fin 2048)

theorem gate_at : gate x a1 (ix2 r 0) = Row.gate (fun k => x (ix2 r k)) (fun k => a1 (ix2 0 k)) := by
  pointwise [gate]
  rfl

theorem mean_at : mean x (ix2 r 0) = Row.mean (fun k => x (ix2 r k)) := by
  pointwise [mean, rowSum]
  rfl

theorem variance_at : variance x (ix2 r 0) = Row.var (fun k => x (ix2 r k)) := by
  pointwise [variance, rowSum, centred, count, mean_at]
  have h0 : FloatOps.sitofp (F := Ideal) FTy.f32 0#32 = (0 : EReal) := by
    show (((0#32 : BitVec 32).toInt : ℝ) : EReal) = 0
    simp
  rw [h0, sub_zero, if_pos (by rw [Row.lit_2048]; exact EReal.coe_pos.mpr (by norm_num))]
  rfl

theorem normed_at : normed x a2 a3 (ix2 r d) = Row.norm (fun k => x (ix2 r k)) (fun k => a2 (ix1 k)) (fun k => a3 (ix1 k)) d := by
  pointwise [normed, centred, mean_at, variance_at]
  rfl

theorem hidden_at (k : Fin 8192) : hidden h a4 a5 (ix2 r k)
    = Row.hidden (fun k => h (ix2 r k)) (fun k d => a4 (ix2 k d)) (fun k => a5 (ix1 k)) k := by
  pointwise [hidden]
  rfl

theorem blend_at : blend x α h a4 a5 a6 a7 (ix2 r d)
    = α (ix2 r 0) * (x (ix2 r d) + (∑ k, Row.hidden (fun k => h (ix2 r k)) (fun k d => a4 (ix2 k d)) (fun k => a5 (ix1 k)) k * a6 (ix2 d k) + a7 (ix1 d)))
      + ((1 : EReal) - α (ix2 r 0)) * x (ix2 r d) := by
  pointwise [blend, expert, hidden_at]

/-- What the reference does to every row, at one entry. -/
theorem perRow_at : perRow x a1 a2 a3 a4 a5 a6 a7 (ix2 r d)
    = Row.out (fun k => x (ix2 r k)) (fun k => a1 (ix2 0 k)) (fun k => a2 (ix1 k)) (fun k => a3 (ix1 k)) (fun k d => a4 (ix2 k d)) (fun k => a5 (ix1 k))
        (fun d k => a6 (ix2 d k)) (fun d => a7 (ix1 d)) d := by
  unfold perRow
  rw [blend_at, gate_at]
  simp only [normed_at]
  rfl

end Cert.RefRun
-- ==== Proof.Routing.lean ====
/-
The routing of the reference: the tokens are sorted by expert, every row is worked on by itself, and
the sorting is undone. The sorting order is a permutation whatever the keys are, so the entries that
come back are those of the row-wise work on the tokens in their own order.
-/
module

public import proofs.«01_k».proof.Proof.RefValue
public import Idealize.ShloMosaic.Lib.Routing.Ops
public import Idealize.ShloMosaic.Lib.Routing.OpsSet
public import Idealize.ShloMosaic.Lib.SortFacts
public import Idealize.ShloMosaic.Lib.ReduceAll

@[expose] public section

noncomputable section

namespace Cert.RefRun

open Cert.ReferenceIdeal Cert.ReferenceIdeal.Gen Idealize.ShloMosaic

set_option maxRecDepth 16384

/-- The words of `p` are the row numbers that `σ` gives. -/
def Names (p : IVec S8192 32) (σ : Fin 8192 → Fin 8192) : Prop :=
  ∀ i, p (ix1 i) = BitVec.ofNat 32 (σ i).val

/-- The second array of a sort of two vectors, read at a place: its entry at the place that the sort takes it from. -/
theorem sort2_snd_at {α β : Type} {n : ℕ} (cmp : α × β → α × β → BitVec 1) (x : (Routing.shape1 n).Idx → α) (y : (Routing.shape1 n).Idx → β) (i : Fin n) :
    (Host.sort2 (Routing.shape1 n) 0 cmp x y).2 (ix1 i)
      = y (Shape.Idx.ofFin (sortedFrom (fun k k' : Fin n =>
          cmp (x (Shape.Idx.ofFin k), y (Shape.Idx.ofFin k)) (x (Shape.Idx.ofFin k'), y (Shape.Idx.ofFin k')) == 1#1) i)) := by
  have al : ∀ k : Fin n, (ix1 i : (Routing.shape1 n).Idx).along (0 : Fin 1) k = Shape.Idx.ofFin k := fun k => Shape.Idx.along_rank1 _ k
  unfold Host.sort2
  rw [dif_pos (show 0 < (Routing.shape1 n).rank from Nat.one_pos)]
  show y ((ix1 i : (Routing.shape1 n).Idx).along (0 : Fin 1) (sortedFrom (fun k k' : Fin n =>
    cmp (x ((ix1 i : (Routing.shape1 n).Idx).along (0 : Fin 1) k), y ((ix1 i : (Routing.shape1 n).Idx).along (0 : Fin 1) k))
      (x ((ix1 i : (Routing.shape1 n).Idx).along (0 : Fin 1) k'), y ((ix1 i : (Routing.shape1 n).Idx).along (0 : Fin 1) k')) == 1#1) i)) = _
  simp only [al]
  exact congrArg y (al _)

/-- A sort of places gives a permutation of them, whatever the comparison. -/
theorem sort2_places {α : Type} {n : ℕ} (cmp : α × BitVec 32 → α × BitVec 32 → BitVec 1) (x : (Routing.shape1 n).Idx → α) :
    ∃ σ : Equiv.Perm (Fin n), ∀ i, (Host.sort2 (Routing.shape1 n) 0 cmp x (iotaInDim (Routing.shape1 n) 32 0)).2 (ix1 i) = BitVec.ofNat 32 (σ i).val :=
  ⟨Equiv.ofBijective _ ⟨sortedFrom_injective _, sortedFrom_surjective _⟩, fun i => sort2_snd_at cmp x (iotaInDim (Routing.shape1 n) 32 0) i⟩

/-- Sorting gives a permutation, whatever the keys. -/
theorem sortOrder_names (key : IVec S8192 32) : ∃ σ : Equiv.Perm (Fin 8192), Names (sortOrder key) σ :=
  sort2_places comparator_i32_i32_d0 key

variable {p : IVec S8192 32} {σ : Fin 8192 → Fin 8192}

/-- A row number that names a row is taken as it stands. -/
theorem wrap_at (h : Names p σ) (i : Fin 8192) : wrap p (ix2 i 0) = BitVec.ofNat 32 (σ i).val := by
  have hlt := (σ i).isLt
  pointwise [wrap, h i]
  have h0 : ¬ IntOp.cmpi .slt (BitVec.ofNat 32 (σ i).val) 0#32 = 1#1 := by
    rw [IntOp.cmpi_slt, StableHlo.Predicate.toInt_ofNat_small _ (by omega)]
    simp
  exact if_neg h0

/-- Every row number that names a row passes the range test. -/
theorem inRange_at (h : Names p σ) (i : S8192.Idx) : inRange (wrap p) i = 1#1 := by
  unfold inRange
  refine Host.reduce_andi_one _ _ _ _ i rfl fun j => ?_
  obtain ⟨r, rfl⟩ : ∃ r : Fin 8192, j = ix2 r 0 := by
    idx_vars j
    exact ⟨j0, by rw [Subsingleton.elim j1 0]⟩
  have hlt := (σ r).isLt
  have hi := StableHlo.Predicate.toInt_ofNat_small (σ r).val (by omega)
  pointwise [wrap_at h]
  have h1 : IntOp.cmpi .sge (BitVec.ofNat 32 (σ r).val) 0#32 = 1#1 := by
    rw [IntOp.cmpi_sge, hi]
    simp
  have h2 : IntOp.cmpi .sle (BitVec.ofNat 32 (σ r).val) 8191#32 = 1#1 := by
    rw [IntOp.cmpi_sle, hi]
    have : (8191#32 : BitVec 32).toInt = 8191 := by decide
    omega
  rw [h1, h2]
  rfl

/-- The rows taken by an order. -/
theorem takeRows_at (h : Names p σ) (x : FVec Ideal S8192x2048 .f32) (r : Fin 8192) (d : Fin 2048) :
    takeRows p x (ix2 r d) = x (ix2 (σ r) d) := by
  have hg := Routing.gather_row gather_S8192x2048_S8192x1_S8192x2048_1_0_n_n_0_1_12048 rfl rfl rfl rfl rfl x (wrap p) r d (σ r) (wrap_at h r) (by norm_num)
  unfold takeRows
  refine Eq.trans ?_ hg
  pointwise [inRange_at h]
  rfl

/-- The position of every row in a permutation is the inverse permutation. -/
theorem inverseOrder_names {σ : Equiv.Perm (Fin 8192)} (h : Names p σ) : Names (inverseOrder p) σ.symm := by
  intro i
  refine (Routing.scatter_set_signed scatter_S8192_S8192x1_S8192_n_0_0_1 rfl rfl rfl _ (wrap p) (iotaInDim S8192 32 0) i
    (BitVec.ofNat 32 (σ.symm i).val) fun k hk => ?_).1 ⟨σ.symm i, ?_⟩
  · have hw := wrap_at h k
    have hlt := (σ k).isLt
    have : σ k = i := by
      apply Fin.ext
      have e : ((wrap p (ix2 k 0)).toInt = (i.val : Int)) := hk
      rw [hw, StableHlo.Predicate.toInt_ofNat_small _ (by omega)] at e
      exact_mod_cast e
    rw [← this, Equiv.symm_apply_apply]
    rfl
  · have hw := wrap_at h (σ.symm i)
    rw [Equiv.apply_symm_apply] at hw
    have hlt := i.isLt
    show (wrap p (ix2 (σ.symm i) 0)).toInt = _
    rw [hw, StableHlo.Predicate.toInt_ofNat_small _ (by omega)]

/-- The reference's result is the row-wise work on the tokens in their own order. -/
theorem result_at (a0 : FVec Ideal S4x2048x2048 .f32) (a1 : FVec Ideal S16x2048 .f32) (a2 a3 : FVec Ideal S2048 .f32) (a4 : FVec Ideal S8192x2048 .f32)
    (a5 : FVec Ideal S8192 .f32) (a6 : FVec Ideal S2048x8192 .f32) (a7 : FVec Ideal S2048 .f32) (r : Fin 8192) (d : Fin 2048) :
    result a0 a1 a2 a3 a4 a5 a6 a7 (ix2 r d)
      = Row.out (fun k => rows a0 (ix2 r k)) (fun k => a1 (ix2 0 k)) (fun k => a2 (ix1 k)) (fun k => a3 (ix1 k)) (fun k d => a4 (ix2 k d))
          (fun k => a5 (ix1 k)) (fun d k => a6 (ix2 d k)) (fun d => a7 (ix1 d)) d := by
  obtain ⟨σ, hσ⟩ := sortOrder_names (bestExpert (rows a0) a1)
  unfold result
  rw [takeRows_at (inverseOrder_names hσ), perRow_at]
  simp only [takeRows_at hσ, Equiv.apply_symm_apply]

end Cert.RefRun
-- ==== Proof.Equal.lean ====
/-
From features that are numbers, the kernel's output array is the reference's.
-/
module

public import proofs.«01_k».proof.Pre_features_finite
public import proofs.«01_k».proof.Proof.Fold
public import proofs.«01_k».proof.Proof.Routing

@[expose] public section

noncomputable section

namespace Cert.Equal

open Idealize.ShloMosaic Idealize.ShloMosaic.TcCoe Idealize.SL.Sem Cert.KernelIdeal

set_option maxRecDepth 16384

/-- The side condition of the precondition's one broadcast. -/
instance pre_facts : Cert.Pre_features_finite.Facts := ⟨by decide⟩

/-- An extended real whose magnitude is below the top is a number. -/
theorem real_of_abs_lt_top {x : EReal} (h : max x (-x) < ⊤) : ∃ r : ℝ, x = r := by
  induction x using EReal.rec with
  | bot => exact absurd h (by simp)
  | top => exact absurd h (by simp)
  | coe r => exact ⟨r, rfl⟩

/-- The precondition makes every feature a number. -/
theorem features_real (a0 : FVec Ideal S4x2048x2048 .f32) (a1 : FVec Ideal S16x2048 .f32) (a2 a3 : FVec Ideal S2048 .f32) (a4 : FVec Ideal S8192x2048 .f32)
    (a5 : FVec Ideal S8192 .f32) (a6 : FVec Ideal S2048x8192 .f32) (a7 : FVec Ideal S2048 .f32)
    (h : Cert.Pre_features_finite.fn (F := Ideal) a0 a1 a2 a3 a4 a5 a6 a7 = fun _ => 1#1) (i : S4x2048x2048.Idx) : ∃ r : ℝ, a0 i = r := by
  have hi := congrFun h i
  have e : Cert.Pre_features_finite.fn (F := Ideal) a0 a1 a2 a3 a4 a5 a6 a7 i = Ideal.cmp .olt (max (a0 i) (-(a0 i))) (Ideal.ofBits .f32 0x7F800000#32) := rfl
  rw [e, Row.lit_inf] at hi
  refine real_of_abs_lt_top ?_
  by_contra hn
  have : Ideal.cmp .olt (max (a0 i) (-(a0 i))) ⊤ = 0#1 := by
    show BitVec.ofBool (decide (max (a0 i) (-(a0 i)) < ⊤)) = 0#1
    rw [decide_eq_false hn]
    rfl
  rw [this] at hi
  exact absurd hi (by decide)

variable (m : (ℓ : Loc nD τ sig) → Buf (Elt Ideal) ℓ) (c : Dev nD)

/-- The reference's function of the kernel's arguments. -/
def want : FVec Ideal S8192x2048 .f32 :=
  Cert.RefRun.result (F := Ideal) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

/-- The kernel's output array is the reference's. -/
theorem kernel_eq (hx : ∀ i, ∃ r : ℝ, (show FVec Ideal S4x2048x2048 .f32 from m ((c.tc : Thread nD τ).loc main_arg0)) i = r) :
    (Value.G8 m c : FVec Ideal S8192x2048 .f32) = want m c := by
  funext i
  idx_vars i
  rw [Fold.G8_at, Row.out'_eq]
  · exact (Cert.RefRun.result_at _ _ _ _ _ _ _ _ _ _).symm
  · intro d
    exact hx _

end Cert.Equal
-- ==== Proof.lean ====
/-
The proof of the certificate: the kernel and the reference run to their ends with their arguments
unchanged, and the two compute the same array from features that are numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and, having no counters, with all of them at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.RefRun.run (F := Ideal) m ρ)

/-- From features that are numbers the kernel and the reference end with the same array. -/
theorem equal : Cert.algebraic_KernelIdeal_ReferenceIdeal_pre_features_finite := by
  intro m g m' g' hp ha
  refine ⟨fun c => Cert.KernelIdeal.Value.G8 m c, Cert.KernelIdeal.Value.run m g, ?_⟩
  refine (θ_run Cert.ReferenceIdeal.defs _ _).mono (fun r h c => ⟨(h c).1.trans ?_, (h c).2⟩) (Cert.RefRun.run (F := Ideal) m' g')
  have hG := Cert.Equal.kernel_eq m c (Cert.Equal.features_real _ _ _ _ _ _ _ _ (hp c))
  obtain ⟨h0, h1, h2, h3, h4, h5, h6, h7⟩ := ha c
  rw [h0, h1, h2, h3, h4, h5, h6, h7]
  exact hG.symm

theorem claim : Cert.Claim := ⟨Cert.Kernel.Gen.facts, Cert.KernelIdeal.Gen.facts, Cert.ReferenceIdeal.Gen.facts, Cert.Equal.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, equal⟩

end Cert.Proof

end
